-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fixed_paths [hPre_fixed_paths : Cert.Pre_fixed_paths.Facts] (m : (ℓ : Loc Cert.KernelIdeal.nD Cert.KernelIdeal.τ Cert.KernelIdeal.sig) → Buf (Elt Ideal) ℓ) : Prop :=
  ∀ c : Dev Cert.KernelIdeal.nD,
    (Cert.Pre_fixed_paths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fixed_paths [hPre_fixed_paths : Cert.Pre_fixed_paths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fixed_paths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_fixed_paths [hKernelIdeal : Cert.KernelIdeal.Facts] [hPre_fixed_paths : Cert.Pre_fixed_paths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fixed_paths m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_fixed_paths [hReferenceIdeal : Cert.ReferenceIdeal.Facts] [hPre_fixed_paths : Cert.Pre_fixed_paths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fixed_paths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_fixed_paths [hKernelIdeal : Cert.KernelIdeal.Facts] [hReferenceIdeal : Cert.ReferenceIdeal.Facts] [hPre_fixed_paths : Cert.Pre_fixed_paths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fixed_paths m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v351) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_fixed_paths : Cert.Pre_fixed_paths.Facts),
    quiescent_Kernel (hKernel := hKernel)
    ∧ quiescent_KernelIdeal (hKernelIdeal := hKernelIdeal)
    ∧ quiescent_KernelIdeal_pre_fixed_paths (hKernelIdeal := hKernelIdeal) (hPre_fixed_paths := hPre_fixed_paths)
    ∧ quiescent_ReferenceIdeal (hReferenceIdeal := hReferenceIdeal)
    ∧ quiescent_ReferenceIdeal_pre_fixed_paths (hReferenceIdeal := hReferenceIdeal) (hPre_fixed_paths := hPre_fixed_paths)
    ∧ preserves_Kernel_KernelIdeal
    ∧ algebraic_KernelIdeal_ReferenceIdeal_pre_fixed_paths (hKernelIdeal := hKernelIdeal) (hReferenceIdeal := hReferenceIdeal) (hPre_fixed_paths := hPre_fixed_paths)
-- ==== Pre_fixed_paths.lean ====
abbrev S256x128 : Shape := ⟨2, ![256, 128]⟩
abbrev S524288x128 : Shape := ⟨2, ![524288, 128]⟩
abbrev S512x128 : Shape := ⟨2, ![512, 128]⟩
abbrev S512 : Shape := ⟨1, ![512]⟩
abbrev S128x8 : Shape := ⟨2, ![128, 8]⟩
abbrev S_ : Shape := ⟨0, ![]⟩

class Facts : Prop where
  bcast_S_S128x8 : S_.BroadcastsInDim S128x8 (![] : Fin 0 → Fin S128x8.rank)
  reducesTo_S128x8_S_d0_1 : S128x8.ReducesTo [0, 1] S_
  h_S_ : 0 < S_.numel

variable [Facts]

def fn {F : FTy → Type} [FloatOps F] (main_arg0 : FVec F S256x128 .f32) (main_arg1 : FVec F S524288x128 .f32) (main_arg2 : FVec F S512x128 .f32) (main_arg3 : FVec F S512x128 .f32) (main_arg4 : FVec F S512 .f32) (main_arg5 : FVec F S512 .f32) (main_arg6 : IVec S128x8 32) : IVec S_ 1 :=
  let main_v0 : IVec S128x8 32 := iotaInDim S128x8 32 0
  let main_v1 : IVec S128x8 32 := iotaInDim S128x8 32 1
  let main_c : IVec S_ 32 := constantI S_ 32 16#32
  let main_v2 : IVec S128x8 32 := broadcastInDim S128x8 ![] bcast_S_S128x8 main_c
  let main_v3 : IVec S128x8 32 := Host.divsi main_v0 main_v2
  let main_c_0 : IVec S_ 32 := constantI S_ 32 16#32
  let main_v4 : IVec S128x8 32 := broadcastInDim S128x8 ![] bcast_S_S128x8 main_c_0
  let main_v5 : IVec S128x8 32 := muli main_v3 main_v4
  let main_v6 : IVec S128x8 32 := subi main_v0 main_v5
  let main_c_1 : IVec S_ 32 := constantI S_ 32 65536#32
  let main_v7 : IVec S128x8 32 := broadcastInDim S128x8 ![] bcast_S_S128x8 main_c_1
  let main_v8 : IVec S128x8 32 := muli main_v3 main_v7
  let main_c_2 : IVec S_ 32 := constantI S_ 32 8#32
  let main_v9 : IVec S128x8 32 := broadcastInDim S128x8 ![] bcast_S_S128x8 main_c_2
  let main_v10 : IVec S128x8 32 := muli main_v6 main_v9
  let main_v11 : IVec S128x8 32 := addi main_v8 main_v10
  let main_v12 : IVec S128x8 32 := addi main_v11 main_v1
  let main_v13 : IVec S128x8 1 := cmpi .eq main_arg6 main_v12
  let main_c_3 : IVec S_ 1 := constantI S_ 1 1#1
  let main_v14 : IVec S_ 1 := (fun x v => Host.reduce IntOp.andi x v reducesTo_S128x8_S_d0_1 h_S_) main_v13 main_c_3
  main_v14
-- ==== Kernel.lean ====
abbrev S256x128 : Shape := ⟨2, ![256, 128]⟩
abbrev S524288x128 : Shape := ⟨2, ![524288, 128]⟩
abbrev S512x128 : Shape := ⟨2, ![512, 128]⟩
abbrev S512 : Shape := ⟨1, ![512]⟩
abbrev S128x8 : Shape := ⟨2, ![128, 8]⟩
abbrev S1024x128 : Shape := ⟨2, ![1024, 128]⟩
abbrev S_ : Shape := ⟨0, ![]⟩
abbrev S128x128 : Shape := ⟨2, ![128, 128]⟩
abbrev S128x8x128 : Shape := ⟨3, ![128, 8, 128]⟩
abbrev S1x512 : Shape := ⟨2, ![1, 512]⟩
abbrev S256x8x128 : Shape := ⟨3, ![256, 8, 128]⟩
abbrev S128x1x128 : Shape := ⟨3, ![128, 1, 128]⟩
abbrev S128x512 : Shape := ⟨2, ![128, 512]⟩
abbrev S256x1x128 : Shape := ⟨3, ![256, 1, 128]⟩

abbrev nBuf : Table → Nat
  | .hbm => 13
  | .local .tc .vmem => 9
  | _ => 0

abbrev bufTy : (tb : Table) → Fin (nBuf tb) → BufTy
  | .hbm, ⟨0, _⟩ => ⟨S256x128, .f32⟩
  | .hbm, ⟨1, _⟩ => ⟨S524288x128, .f32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128x8, .i32⟩
  | .hbm, ⟨7, _⟩ => ⟨S1024x128, .f32⟩
  | .hbm, ⟨8, _⟩ => ⟨S128x8x128, .f32⟩
  | .hbm, ⟨9, _⟩ => ⟨S256x128, .f32⟩
  | .hbm, ⟨10, _⟩ => ⟨S1x512, .f32⟩
  | .hbm, ⟨11, _⟩ => ⟨S1x512, .f32⟩
  | .hbm, ⟨12, _⟩ => ⟨S256x8x128, .f32⟩
  | .local .tc .vmem, ⟨0, _⟩ => ⟨S256x128, .f32⟩
  | .local .tc .vmem, ⟨1, _⟩ => ⟨S256x128, .f32⟩
  | .local .tc .vmem, ⟨2, _⟩ => ⟨S128x8x128, .f32⟩
  | .local .tc .vmem, ⟨3, _⟩ => ⟨S256x128, .f32⟩
  | .local .tc .vmem, ⟨4, _⟩ => ⟨S512x128, .f32⟩
  | .local .tc .vmem, ⟨5, _⟩ => ⟨S512x128, .f32⟩
  | .local .tc .vmem, ⟨6, _⟩ => ⟨S1x512, .f32⟩
  | .local .tc .vmem, ⟨7, _⟩ => ⟨S1x512, .f32⟩
  | .local .tc .vmem, ⟨8, _⟩ => ⟨S256x8x128, .f32⟩
  | _, _ => ⟨S256x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg1_scs : Ref sig .scScalar := ⟨.hbm, 1, rfl⟩
abbrev main_v0_scs : Ref sig .scScalar := ⟨.hbm, 7, rfl⟩
abbrev cc1_stg0_0 : Ref sig .tc := ⟨.vmem, 0, rfl⟩
abbrev cc1_stg1_0 : Ref sig .tc := ⟨.vmem, 1, rfl⟩
abbrev cc2_stg0_0 : Ref sig .tc := ⟨.vmem, 2, rfl⟩
abbrev cc2_stg1_0 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc1_sem0_0 : DmaSem sig := 1
abbrev cc1_sem1_0 : DmaSem sig := 2
abbrev cc2_sem0_0 : DmaSem sig := 3
abbrev cc2_sem1_0 : DmaSem sig := 4
abbrev cc2_sem2_0 : DmaSem sig := 5
abbrev cc2_sem3_0 : DmaSem sig := 6
abbrev cc2_sem4_0 : DmaSem sig := 7
abbrev cc2_sem5_0 : DmaSem sig := 8
abbrev cc2_sem6_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev grid1 : Pipeline.Grid := .none

abbrev stage1_0 : Fin 1 → Memref sig .tc .vmem S256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := .none

abbrev stage2_0 : Fin 1 → Memref sig .tc .vmem S128x8x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S512x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S256x8x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S256x128 : Shape := ⟨2, ![256, 128]⟩
abbrev S524288x128 : Shape := ⟨2, ![524288, 128]⟩
abbrev S512x128 : Shape := ⟨2, ![512, 128]⟩
abbrev S512 : Shape := ⟨1, ![512]⟩
abbrev S128x8 : Shape := ⟨2, ![128, 8]⟩
abbrev S_ : Shape := ⟨0, ![]⟩
abbrev S128x8x1 : Shape := ⟨3, ![128, 8, 1]⟩
abbrev S1 : Shape := ⟨1, ![1]⟩
abbrev S1x1x1 : Shape := ⟨3, ![1, 1, 1]⟩
abbrev S128x8x128 : Shape := ⟨3, ![128, 8, 128]⟩
abbrev S128x128 : Shape := ⟨2, ![128, 128]⟩
abbrev S128x1x128 : Shape := ⟨3, ![128, 1, 128]⟩
abbrev S128x512 : Shape := ⟨2, ![128, 512]⟩
abbrev S1x512 : Shape := ⟨2, ![1, 512]⟩
abbrev S256x8x16 : Shape := ⟨3, ![256, 8, 16]⟩
abbrev S16 : Shape := ⟨1, ![16]⟩
abbrev S1x1x16 : Shape := ⟨3, ![1, 1, 16]⟩
abbrev S256x8 : Shape := ⟨2, ![256, 8]⟩
abbrev S8 : Shape := ⟨1, ![8]⟩
abbrev S1x8 : Shape := ⟨2, ![1, 8]⟩
abbrev S2048 : Shape := ⟨1, ![2048]⟩
abbrev S2048x1 : Shape := ⟨2, ![2048, 1]⟩
abbrev S1x1 : Shape := ⟨2, ![1, 1]⟩
abbrev S2048x128 : Shape := ⟨2, ![2048, 128]⟩
abbrev S256x8x128 : Shape := ⟨3, ![256, 8, 128]⟩
abbrev S256x8x1 : Shape := ⟨3, ![256, 8, 1]⟩

abbrev nBuf : Space → Nat
  | .hbm => 467
  | .vmem => 0
  | .smem => 0
  | _ => 0

abbrev hbmTy0_0 (i : Nat) : BufTy := match i % 128 with
  | 0 => ⟨S256x128, .f32⟩
  | 1 => ⟨S524288x128, .f32⟩
  | 2 => ⟨S512x128, .f32⟩
  | 3 => ⟨S512x128, .f32⟩
  | 4 => ⟨S512, .f32⟩
  | 5 => ⟨S512, .f32⟩
  | 6 => ⟨S128x8, .i32⟩
  | 7 => ⟨S_, .i32⟩
  | 8 => ⟨S128x8, .i32⟩
  | 9 => ⟨S128x8, .i1⟩
  | 10 => ⟨S_, .i32⟩
  | 11 => ⟨S128x8, .i32⟩
  | 12 => ⟨S128x8, .i32⟩
  | 13 => ⟨S128x8, .i32⟩
  | 14 => ⟨S128x8x1, .i32⟩
  | 15 => ⟨S1, .i32⟩
  | 16 => ⟨S_, .i32⟩
  | 17 => ⟨S128x8x1, .i32⟩
  | 18 => ⟨S128x8x1, .i1⟩
  | 19 => ⟨S1x1x1, .i32⟩
  | 20 => ⟨S128x8x1, .i32⟩
  | 21 => ⟨S128x8x1, .i1⟩
  | 22 => ⟨S128x8x1, .i1⟩
  | 23 => ⟨S_, .i1⟩
  | 24 => ⟨S128x8, .i1⟩
  | 25 => ⟨S128x8x128, .f32⟩
  | 26 => ⟨S128x8x128, .i1⟩
  | 27 => ⟨S_, .f32⟩
  | 28 => ⟨S128x8x128, .f32⟩
  | 29 => ⟨S128x8x128, .f32⟩
  | 30 => ⟨S_, .f32⟩
  | 31 => ⟨S128x128, .f32⟩
  | 32 => ⟨S_, .f32⟩
  | 33 => ⟨S128x128, .f32⟩
  | 34 => ⟨S128x1x128, .f32⟩
  | 35 => ⟨S128x128, .f32⟩
  | 36 => ⟨S128x512, .f32⟩
  | 37 => ⟨S128x512, .f32⟩
  | 38 => ⟨S1x512, .f32⟩
  | 39 => ⟨S128x512, .f32⟩
  | 40 => ⟨S128x512, .f32⟩
  | 41 => ⟨S128x512, .f32⟩
  | 42 => ⟨S128x512, .f32⟩
  | 43 => ⟨S128x512, .f32⟩
  | 44 => ⟨S1x512, .f32⟩
  | 45 => ⟨S128x512, .f32⟩
  | 46 => ⟨S128x512, .f32⟩
  | 47 => ⟨S128x128, .f32⟩
  | 48 => ⟨S128x128, .f32⟩
  | 49 => ⟨S128x128, .f32⟩
  | 50 => ⟨S128x128, .f32⟩
  | 51 => ⟨S128x128, .f32⟩
  | 52 => ⟨S128x128, .f32⟩
  | 53 => ⟨S_, .f32⟩
  | 54 => ⟨S128x128, .f32⟩
  | 55 => ⟨S128x128, .f32⟩
  | 56 => ⟨S_, .f32⟩
  | 57 => ⟨S128x128, .f32⟩
  | 58 => ⟨S128x128, .f32⟩
  | 59 => ⟨S128x128, .f32⟩
  | 60 => ⟨S128x128, .f32⟩
  | 61 => ⟨S128x128, .f32⟩
  | 62 => ⟨S_, .f32⟩
  | 63 => ⟨S128x128, .f32⟩
  | 64 => ⟨S128x128, .f32⟩
  | 65 => ⟨S_, .f32⟩
  | 66 => ⟨S128x128, .f32⟩
  | 67 => ⟨S128x128, .f32⟩
  | 68 => ⟨S128x128, .f32⟩
  | 69 => ⟨S128x128, .f32⟩
  | 70 => ⟨S128x128, .f32⟩
  | 71 => ⟨S128x128, .f32⟩
  | 72 => ⟨S128x128, .f32⟩
  | 73 => ⟨S_, .f32⟩
  | 74 => ⟨S128x128, .f32⟩
  | 75 => ⟨S128x128, .f32⟩
  | 76 => ⟨S_, .f32⟩
  | 77 => ⟨S128x128, .f32⟩
  | 78 => ⟨S128x128, .f32⟩
  | 79 => ⟨S128x128, .f32⟩
  | 80 => ⟨S128x128, .f32⟩
  | 81 => ⟨S128x1x128, .f32⟩
  | 82 => ⟨S128x128, .f32⟩
  | 83 => ⟨S128x512, .f32⟩
  | 84 => ⟨S128x512, .f32⟩
  | 85 => ⟨S1x512, .f32⟩
  | 86 => ⟨S128x512, .f32⟩
  | 87 => ⟨S128x512, .f32⟩
  | 88 => ⟨S128x512, .f32⟩
  | 89 => ⟨S128x512, .f32⟩
  | 90 => ⟨S128x512, .f32⟩
  | 91 => ⟨S1x512, .f32⟩
  | 92 => ⟨S128x512, .f32⟩
  | 93 => ⟨S128x512, .f32⟩
  | 94 => ⟨S128x128, .f32⟩
  | 95 => ⟨S128x128, .f32⟩
  | 96 => ⟨S128x128, .f32⟩
  | 97 => ⟨S128x128, .f32⟩
  | 98 => ⟨S128x128, .f32⟩
  | 99 => ⟨S128x128, .f32⟩
  | 100 => ⟨S_, .f32⟩
  | 101 => ⟨S128x128, .f32⟩
  | 102 => ⟨S128x128, .f32⟩
  | 103 => ⟨S_, .f32⟩
  | 104 => ⟨S128x128, .f32⟩
  | 105 => ⟨S128x128, .f32⟩
  | 106 => ⟨S128x128, .f32⟩
  | 107 => ⟨S128x128, .f32⟩
  | 108 => ⟨S128x128, .f32⟩
  | 109 => ⟨S_, .f32⟩
  | 110 => ⟨S128x128, .f32⟩
  | 111 => ⟨S128x128, .f32⟩
  | 112 => ⟨S_, .f32⟩
  | 113 => ⟨S128x128, .f32⟩
  | 114 => ⟨S128x128, .f32⟩
  | 115 => ⟨S128x128, .f32⟩
  | 116 => ⟨S128x128, .f32⟩
  | 117 => ⟨S128x128, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S_, .f32⟩
  | 124 => ⟨S128x128, .f32⟩
  | 125 => ⟨S128x128, .f32⟩
  | 126 => ⟨S128x128, .f32⟩
  | 127 => ⟨S128x128, .f32⟩
  | _ => ⟨S256x128, .f32⟩

abbrev hbmTy0_1 (i : Nat) : BufTy := match i % 128 with
  | 0 => ⟨S128x1x128, .f32⟩
  | 1 => ⟨S128x128, .f32⟩
  | 2 => ⟨S128x512, .f32⟩
  | 3 => ⟨S128x512, .f32⟩
  | 4 => ⟨S1x512, .f32⟩
  | 5 => ⟨S128x512, .f32⟩
  | 6 => ⟨S128x512, .f32⟩
  | 7 => ⟨S128x512, .f32⟩
  | 8 => ⟨S128x512, .f32⟩
  | 9 => ⟨S128x512, .f32⟩
  | 10 => ⟨S1x512, .f32⟩
  | 11 => ⟨S128x512, .f32⟩
  | 12 => ⟨S128x512, .f32⟩
  | 13 => ⟨S128x128, .f32⟩
  | 14 => ⟨S128x128, .f32⟩
  | 15 => ⟨S128x128, .f32⟩
  | 16 => ⟨S128x128, .f32⟩
  | 17 => ⟨S128x128, .f32⟩
  | 18 => ⟨S128x128, .f32⟩
  | 19 => ⟨S_, .f32⟩
  | 20 => ⟨S128x128, .f32⟩
  | 21 => ⟨S128x128, .f32⟩
  | 22 => ⟨S_, .f32⟩
  | 23 => ⟨S128x128, .f32⟩
  | 24 => ⟨S128x128, .f32⟩
  | 25 => ⟨S128x128, .f32⟩
  | 26 => ⟨S128x128, .f32⟩
  | 27 => ⟨S128x128, .f32⟩
  | 28 => ⟨S_, .f32⟩
  | 29 => ⟨S128x128, .f32⟩
  | 30 => ⟨S128x128, .f32⟩
  | 31 => ⟨S_, .f32⟩
  | 32 => ⟨S128x128, .f32⟩
  | 33 => ⟨S128x128, .f32⟩
  | 34 => ⟨S128x128, .f32⟩
  | 35 => ⟨S128x128, .f32⟩
  | 36 => ⟨S128x128, .f32⟩
  | 37 => ⟨S128x128, .f32⟩
  | 38 => ⟨S128x128, .f32⟩
  | 39 => ⟨S_, .f32⟩
  | 40 => ⟨S128x128, .f32⟩
  | 41 => ⟨S128x128, .f32⟩
  | 42 => ⟨S_, .f32⟩
  | 43 => ⟨S128x128, .f32⟩
  | 44 => ⟨S128x128, .f32⟩
  | 45 => ⟨S128x128, .f32⟩
  | 46 => ⟨S128x128, .f32⟩
  | 47 => ⟨S128x1x128, .f32⟩
  | 48 => ⟨S128x128, .f32⟩
  | 49 => ⟨S128x512, .f32⟩
  | 50 => ⟨S128x512, .f32⟩
  | 51 => ⟨S1x512, .f32⟩
  | 52 => ⟨S128x512, .f32⟩
  | 53 => ⟨S128x512, .f32⟩
  | 54 => ⟨S128x512, .f32⟩
  | 55 => ⟨S128x512, .f32⟩
  | 56 => ⟨S128x512, .f32⟩
  | 57 => ⟨S1x512, .f32⟩
  | 58 => ⟨S128x512, .f32⟩
  | 59 => ⟨S128x512, .f32⟩
  | 60 => ⟨S128x128, .f32⟩
  | 61 => ⟨S128x128, .f32⟩
  | 62 => ⟨S128x128, .f32⟩
  | 63 => ⟨S128x128, .f32⟩
  | 64 => ⟨S128x128, .f32⟩
  | 65 => ⟨S128x128, .f32⟩
  | 66 => ⟨S_, .f32⟩
  | 67 => ⟨S128x128, .f32⟩
  | 68 => ⟨S128x128, .f32⟩
  | 69 => ⟨S_, .f32⟩
  | 70 => ⟨S128x128, .f32⟩
  | 71 => ⟨S128x128, .f32⟩
  | 72 => ⟨S128x128, .f32⟩
  | 73 => ⟨S128x128, .f32⟩
  | 74 => ⟨S128x128, .f32⟩
  | 75 => ⟨S_, .f32⟩
  | 76 => ⟨S128x128, .f32⟩
  | 77 => ⟨S128x128, .f32⟩
  | 78 => ⟨S_, .f32⟩
  | 79 => ⟨S128x128, .f32⟩
  | 80 => ⟨S128x128, .f32⟩
  | 81 => ⟨S128x128, .f32⟩
  | 82 => ⟨S128x128, .f32⟩
  | 83 => ⟨S128x128, .f32⟩
  | 84 => ⟨S128x128, .f32⟩
  | 85 => ⟨S128x128, .f32⟩
  | 86 => ⟨S_, .f32⟩
  | 87 => ⟨S128x128, .f32⟩
  | 88 => ⟨S128x128, .f32⟩
  | 89 => ⟨S_, .f32⟩
  | 90 => ⟨S128x128, .f32⟩
  | 91 => ⟨S128x128, .f32⟩
  | 92 => ⟨S128x128, .f32⟩
  | 93 => ⟨S128x128, .f32⟩
  | 94 => ⟨S128x1x128, .f32⟩
  | 95 => ⟨S128x128, .f32⟩
  | 96 => ⟨S128x512, .f32⟩
  | 97 => ⟨S128x512, .f32⟩
  | 98 => ⟨S1x512, .f32⟩
  | 99 => ⟨S128x512, .f32⟩
  | 100 => ⟨S128x512, .f32⟩
  | 101 => ⟨S128x512, .f32⟩
  | 102 => ⟨S128x512, .f32⟩
  | 103 => ⟨S128x512, .f32⟩
  | 104 => ⟨S1x512, .f32⟩
  | 105 => ⟨S128x512, .f32⟩
  | 106 => ⟨S128x512, .f32⟩
  | 107 => ⟨S128x128, .f32⟩
  | 108 => ⟨S128x128, .f32⟩
  | 109 => ⟨S128x128, .f32⟩
  | 110 => ⟨S128x128, .f32⟩
  | 111 => ⟨S128x128, .f32⟩
  | 112 => ⟨S128x128, .f32⟩
  | 113 => ⟨S_, .f32⟩
  | 114 => ⟨S128x128, .f32⟩
  | 115 => ⟨S128x128, .f32⟩
  | 116 => ⟨S_, .f32⟩
  | 117 => ⟨S128x128, .f32⟩
  | 118 => ⟨S128x128, .f32⟩
  | 119 => ⟨S128x128, .f32⟩
  | 120 => ⟨S128x128, .f32⟩
  | 121 => ⟨S128x128, .f32⟩
  | 122 => ⟨S_, .f32⟩
  | 123 => ⟨S128x128, .f32⟩
  | 124 => ⟨S128x128, .f32⟩
  | 125 => ⟨S_, .f32⟩
  | 126 => ⟨S128x128, .f32⟩
  | 127 => ⟨S128x128, .f32⟩
  | _ => ⟨S256x128, .f32⟩

abbrev hbmTy0_2 (i : Nat) : BufTy := match i % 128 with
  | 0 => ⟨S128x128, .f32⟩
  | 1 => ⟨S128x128, .f32⟩
  | 2 => ⟨S128x128, .f32⟩
  | 3 => ⟨S128x128, .f32⟩
  | 4 => ⟨S128x128, .f32⟩
  | 5 => ⟨S_, .f32⟩
  | 6 => ⟨S128x128, .f32⟩
  | 7 => ⟨S128x128, .f32⟩
  | 8 => ⟨S_, .f32⟩
  | 9 => ⟨S128x128, .f32⟩
  | 10 => ⟨S128x128, .f32⟩
  | 11 => ⟨S128x128, .f32⟩
  | 12 => ⟨S128x128, .f32⟩
  | 13 => ⟨S128x1x128, .f32⟩
  | 14 => ⟨S128x128, .f32⟩
  | 15 => ⟨S128x512, .f32⟩
  | 16 => ⟨S128x512, .f32⟩
  | 17 => ⟨S1x512, .f32⟩
  | 18 => ⟨S128x512, .f32⟩
  | 19 => ⟨S128x512, .f32⟩
  | 20 => ⟨S128x512, .f32⟩
  | 21 => ⟨S128x512, .f32⟩
  | 22 => ⟨S128x512, .f32⟩
  | 23 => ⟨S1x512, .f32⟩
  | 24 => ⟨S128x512, .f32⟩
  | 25 => ⟨S128x512, .f32⟩
  | 26 => ⟨S128x128, .f32⟩
  | 27 => ⟨S128x128, .f32⟩
  | 28 => ⟨S128x128, .f32⟩
  | 29 => ⟨S128x128, .f32⟩
  | 30 => ⟨S128x128, .f32⟩
  | 31 => ⟨S128x128, .f32⟩
  | 32 => ⟨S_, .f32⟩
  | 33 => ⟨S128x128, .f32⟩
  | 34 => ⟨S128x128, .f32⟩
  | 35 => ⟨S_, .f32⟩
  | 36 => ⟨S128x128, .f32⟩
  | 37 => ⟨S128x128, .f32⟩
  | 38 => ⟨S128x128, .f32⟩
  | 39 => ⟨S128x128, .f32⟩
  | 40 => ⟨S128x128, .f32⟩
  | 41 => ⟨S_, .f32⟩
  | 42 => ⟨S128x128, .f32⟩
  | 43 => ⟨S128x128, .f32⟩
  | 44 => ⟨S_, .f32⟩
  | 45 => ⟨S128x128, .f32⟩
  | 46 => ⟨S128x128, .f32⟩
  | 47 => ⟨S128x128, .f32⟩
  | 48 => ⟨S128x128, .f32⟩
  | 49 => ⟨S128x128, .f32⟩
  | 50 => ⟨S128x128, .f32⟩
  | 51 => ⟨S128x128, .f32⟩
  | 52 => ⟨S_, .f32⟩
  | 53 => ⟨S128x128, .f32⟩
  | 54 => ⟨S128x128, .f32⟩
  | 55 => ⟨S_, .f32⟩
  | 56 => ⟨S128x128, .f32⟩
  | 57 => ⟨S128x128, .f32⟩
  | 58 => ⟨S128x128, .f32⟩
  | 59 => ⟨S128x128, .f32⟩
  | 60 => ⟨S128x1x128, .f32⟩
  | 61 => ⟨S128x128, .f32⟩
  | 62 => ⟨S128x512, .f32⟩
  | 63 => ⟨S128x512, .f32⟩
  | 64 => ⟨S1x512, .f32⟩
  | 65 => ⟨S128x512, .f32⟩
  | 66 => ⟨S128x512, .f32⟩
  | 67 => ⟨S128x512, .f32⟩
  | 68 => ⟨S128x512, .f32⟩
  | 69 => ⟨S128x512, .f32⟩
  | 70 => ⟨S1x512, .f32⟩
  | 71 => ⟨S128x512, .f32⟩
  | 72 => ⟨S128x512, .f32⟩
  | 73 => ⟨S128x128, .f32⟩
  | 74 => ⟨S128x128, .f32⟩
  | 75 => ⟨S128x128, .f32⟩
  | 76 => ⟨S128x128, .f32⟩
  | 77 => ⟨S128x128, .f32⟩
  | 78 => ⟨S128x128, .f32⟩
  | 79 => ⟨S_, .f32⟩
  | 80 => ⟨S128x128, .f32⟩
  | 81 => ⟨S128x128, .f32⟩
  | 82 => ⟨S_, .f32⟩
  | 83 => ⟨S128x128, .f32⟩
  | 84 => ⟨S128x128, .f32⟩
  | 85 => ⟨S128x128, .f32⟩
  | 86 => ⟨S128x128, .f32⟩
  | 87 => ⟨S128x128, .f32⟩
  | 88 => ⟨S_, .f32⟩
  | 89 => ⟨S128x128, .f32⟩
  | 90 => ⟨S128x128, .f32⟩
  | 91 => ⟨S_, .f32⟩
  | 92 => ⟨S128x128, .f32⟩
  | 93 => ⟨S128x128, .f32⟩
  | 94 => ⟨S128x128, .f32⟩
  | 95 => ⟨S128x128, .f32⟩
  | 96 => ⟨S128x128, .f32⟩
  | 97 => ⟨S128x128, .f32⟩
  | 98 => ⟨S128x128, .f32⟩
  | 99 => ⟨S_, .f32⟩
  | 100 => ⟨S128x128, .f32⟩
  | 101 => ⟨S128x128, .f32⟩
  | 102 => ⟨S_, .f32⟩
  | 103 => ⟨S128x128, .f32⟩
  | 104 => ⟨S128x128, .f32⟩
  | 105 => ⟨S128x128, .f32⟩
  | 106 => ⟨S128x128, .f32⟩
  | 107 => ⟨S128x1x128, .f32⟩
  | 108 => ⟨S128x128, .f32⟩
  | 109 => ⟨S128x512, .f32⟩
  | 110 => ⟨S128x512, .f32⟩
  | 111 => ⟨S1x512, .f32⟩
  | 112 => ⟨S128x512, .f32⟩
  | 113 => ⟨S128x512, .f32⟩
  | 114 => ⟨S128x512, .f32⟩
  | 115 => ⟨S128x512, .f32⟩
  | 116 => ⟨S128x512, .f32⟩
  | 117 => ⟨S1x512, .f32⟩
  | 118 => ⟨S128x512, .f32⟩
  | 119 => ⟨S128x512, .f32⟩
  | 120 => ⟨S128x128, .f32⟩
  | 121 => ⟨S128x128, .f32⟩
  | 122 => ⟨S128x128, .f32⟩
  | 123 => ⟨S128x128, .f32⟩
  | 124 => ⟨S128x128, .f32⟩
  | 125 => ⟨S128x128, .f32⟩
  | 126 => ⟨S_, .f32⟩
  | 127 => ⟨S128x128, .f32⟩
  | _ => ⟨S256x128, .f32⟩

abbrev hbmTy0_3 (i : Nat) : BufTy := match i % 128 with
  | 0 => ⟨S128x128, .f32⟩
  | 1 => ⟨S_, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S_, .f32⟩
  | 8 => ⟨S128x128, .f32⟩
  | 9 => ⟨S128x128, .f32⟩
  | 10 => ⟨S_, .f32⟩
  | 11 => ⟨S128x128, .f32⟩
  | 12 => ⟨S128x128, .f32⟩
  | 13 => ⟨S128x128, .f32⟩
  | 14 => ⟨S128x128, .f32⟩
  | 15 => ⟨S128x128, .f32⟩
  | 16 => ⟨S128x128, .f32⟩
  | 17 => ⟨S128x128, .f32⟩
  | 18 => ⟨S_, .f32⟩
  | 19 => ⟨S128x128, .f32⟩
  | 20 => ⟨S128x128, .f32⟩
  | 21 => ⟨S_, .f32⟩
  | 22 => ⟨S128x128, .f32⟩
  | 23 => ⟨S128x128, .f32⟩
  | 24 => ⟨S128x128, .f32⟩
  | 25 => ⟨S128x128, .f32⟩
  | 26 => ⟨S_, .f32⟩
  | 27 => ⟨S256x128, .f32⟩
  | 28 => ⟨S256x128, .i1⟩
  | 29 => ⟨S256x8x16, .i1⟩
  | 30 => ⟨S16, .i32⟩
  | 31 => ⟨S1x1x16, .i32⟩
  | 32 => ⟨S_, .i32⟩
  | 33 => ⟨S_, .i32⟩
  | 34 => ⟨S256x8x16, .i32⟩
  | 35 => ⟨S256x8x16, .i32⟩
  | 36 => ⟨S256x8x16, .i32⟩
  | 37 => ⟨S_, .i32⟩
  | 38 => ⟨S256x8, .i32⟩
  | 39 => ⟨S_, .i32⟩
  | 40 => ⟨S256x8, .i32⟩
  | 41 => ⟨S256x8, .i1⟩
  | 42 => ⟨S8, .i32⟩
  | 43 => ⟨S1x8, .i32⟩
  | 44 => ⟨S_, .i32⟩
  | 45 => ⟨S1x8, .i32⟩
  | 46 => ⟨S1x8, .i32⟩
  | 47 => ⟨S_, .i32⟩
  | 48 => ⟨S_, .i32⟩
  | 49 => ⟨S256x8, .i32⟩
  | 50 => ⟨S256x8, .i32⟩
  | 51 => ⟨S256x8, .i32⟩
  | 52 => ⟨S256x8, .i32⟩
  | 53 => ⟨S2048, .i32⟩
  | 54 => ⟨S_, .i32⟩
  | 55 => ⟨S2048, .i32⟩
  | 56 => ⟨S2048, .i1⟩
  | 57 => ⟨S_, .i32⟩
  | 58 => ⟨S2048, .i32⟩
  | 59 => ⟨S2048, .i32⟩
  | 60 => ⟨S2048, .i32⟩
  | 61 => ⟨S2048x1, .i32⟩
  | 62 => ⟨S1, .i32⟩
  | 63 => ⟨S_, .i32⟩
  | 64 => ⟨S2048x1, .i32⟩
  | 65 => ⟨S2048x1, .i1⟩
  | 66 => ⟨S1x1, .i32⟩
  | 67 => ⟨S2048x1, .i32⟩
  | 68 => ⟨S2048x1, .i1⟩
  | 69 => ⟨S2048x1, .i1⟩
  | 70 => ⟨S_, .i1⟩
  | 71 => ⟨S2048, .i1⟩
  | 72 => ⟨S2048x128, .f32⟩
  | 73 => ⟨S2048x128, .i1⟩
  | 74 => ⟨S_, .f32⟩
  | 75 => ⟨S2048x128, .f32⟩
  | 76 => ⟨S2048x128, .f32⟩
  | 77 => ⟨S256x8x128, .f32⟩
  | 78 => ⟨S256x8x1, .i1⟩
  | 79 => ⟨S_, .f32⟩
  | 80 => ⟨S256x8x128, .i1⟩
  | 81 => ⟨S256x8x128, .f32⟩
  | 82 => ⟨S256x8x128, .f32⟩
  | _ => ⟨S256x128, .f32⟩

abbrev hbmTy (i : Nat) : BufTy := match i / 128 with
  | 0 => hbmTy0_0 i
  | 1 => hbmTy0_1 i
  | 2 => hbmTy0_2 i
  | 3 => hbmTy0_3 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_cst_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_1 : Ref sig .tc := ⟨.hbm, 53, rfl⟩
abbrev main_v22 : Ref sig .tc := ⟨.hbm, 54, rfl⟩
abbrev main_v23 : Ref sig .tc := ⟨.hbm, 55, rfl⟩
abbrev main_cst_2 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_3 : Ref sig .tc := ⟨.hbm, 62, rfl⟩
abbrev main_v29 : Ref sig .tc := ⟨.hbm, 63, rfl⟩
abbrev main_v30 : Ref sig .tc := ⟨.hbm, 64, rfl⟩
abbrev main_cst_4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_5 : Ref sig .tc := ⟨.hbm, 73, rfl⟩
abbrev main_v38 : Ref sig .tc := ⟨.hbm, 74, rfl⟩
abbrev main_v39 : Ref sig .tc := ⟨.hbm, 75, rfl⟩
abbrev main_cst_6 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_7 : Ref sig .tc := ⟨.hbm, 100, rfl⟩
abbrev main_v63 : Ref sig .tc := ⟨.hbm, 101, rfl⟩
abbrev main_v64 : Ref sig .tc := ⟨.hbm, 102, rfl⟩
abbrev main_cst_8 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_9 : Ref sig .tc := ⟨.hbm, 109, rfl⟩
abbrev main_v70 : Ref sig .tc := ⟨.hbm, 110, rfl⟩
abbrev main_v71 : Ref sig .tc := ⟨.hbm, 111, rfl⟩
abbrev main_cst_10 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_11 : Ref sig .tc := ⟨.hbm, 120, rfl⟩
abbrev main_v79 : Ref sig .tc := ⟨.hbm, 121, rfl⟩
abbrev main_v80 : Ref sig .tc := ⟨.hbm, 122, rfl⟩
abbrev main_cst_12 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_13 : Ref sig .tc := ⟨.hbm, 147, rfl⟩
abbrev main_v104 : Ref sig .tc := ⟨.hbm, 148, rfl⟩
abbrev main_v105 : Ref sig .tc := ⟨.hbm, 149, rfl⟩
abbrev main_cst_14 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_15 : Ref sig .tc := ⟨.hbm, 156, rfl⟩
abbrev main_v111 : Ref sig .tc := ⟨.hbm, 157, rfl⟩
abbrev main_v112 : Ref sig .tc := ⟨.hbm, 158, rfl⟩
abbrev main_cst_16 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_17 : Ref sig .tc := ⟨.hbm, 167, rfl⟩
abbrev main_v120 : Ref sig .tc := ⟨.hbm, 168, rfl⟩
abbrev main_v121 : Ref sig .tc := ⟨.hbm, 169, rfl⟩
abbrev main_cst_18 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_19 : Ref sig .tc := ⟨.hbm, 194, rfl⟩
abbrev main_v145 : Ref sig .tc := ⟨.hbm, 195, rfl⟩
abbrev main_v146 : Ref sig .tc := ⟨.hbm, 196, rfl⟩
abbrev main_cst_20 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_21 : Ref sig .tc := ⟨.hbm, 203, rfl⟩
abbrev main_v152 : Ref sig .tc := ⟨.hbm, 204, rfl⟩
abbrev main_v153 : Ref sig .tc := ⟨.hbm, 205, rfl⟩
abbrev main_cst_22 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_23 : Ref sig .tc := ⟨.hbm, 214, rfl⟩
abbrev main_v161 : Ref sig .tc := ⟨.hbm, 215, rfl⟩
abbrev main_v162 : Ref sig .tc := ⟨.hbm, 216, rfl⟩
abbrev main_cst_24 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_25 : Ref sig .tc := ⟨.hbm, 241, rfl⟩
abbrev main_v186 : Ref sig .tc := ⟨.hbm, 242, rfl⟩
abbrev main_v187 : Ref sig .tc := ⟨.hbm, 243, rfl⟩
abbrev main_cst_26 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_cst_27 : Ref sig .tc := ⟨.hbm, 250, rfl⟩
abbrev main_v193 : Ref sig .tc := ⟨.hbm, 251, rfl⟩
abbrev main_v194 : Ref sig .tc := ⟨.hbm, 252, rfl⟩
abbrev main_cst_28 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_cst_29 : Ref sig .tc := ⟨.hbm, 261, rfl⟩
abbrev main_v202 : Ref sig .tc := ⟨.hbm, 262, rfl⟩
abbrev main_v203 : Ref sig .tc := ⟨.hbm, 263, rfl⟩
abbrev main_cst_30 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_cst_31 : Ref sig .tc := ⟨.hbm, 288, rfl⟩
abbrev main_v227 : Ref sig .tc := ⟨.hbm, 289, rfl⟩
abbrev main_v228 : Ref sig .tc := ⟨.hbm, 290, rfl⟩
abbrev main_cst_32 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_cst_33 : Ref sig .tc := ⟨.hbm, 297, rfl⟩
abbrev main_v234 : Ref sig .tc := ⟨.hbm, 298, rfl⟩
abbrev main_v235 : Ref sig .tc := ⟨.hbm, 299, rfl⟩
abbrev main_cst_34 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_cst_35 : Ref sig .tc := ⟨.hbm, 308, rfl⟩
abbrev main_v243 : Ref sig .tc := ⟨.hbm, 309, rfl⟩
abbrev main_v244 : Ref sig .tc := ⟨.hbm, 310, rfl⟩
abbrev main_cst_36 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_cst_37 : Ref sig .tc := ⟨.hbm, 335, rfl⟩
abbrev main_v268 : Ref sig .tc := ⟨.hbm, 336, rfl⟩
abbrev main_v269 : Ref sig .tc := ⟨.hbm, 337, rfl⟩
abbrev main_cst_38 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_cst_39 : Ref sig .tc := ⟨.hbm, 344, rfl⟩
abbrev main_v275 : Ref sig .tc := ⟨.hbm, 345, rfl⟩
abbrev main_v276 : Ref sig .tc := ⟨.hbm, 346, rfl⟩
abbrev main_cst_40 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_cst_41 : Ref sig .tc := ⟨.hbm, 355, rfl⟩
abbrev main_v284 : Ref sig .tc := ⟨.hbm, 356, rfl⟩
abbrev main_v285 : Ref sig .tc := ⟨.hbm, 357, rfl⟩
abbrev main_cst_42 : Ref sig .tc := ⟨.hbm, 358, rfl⟩
abbrev main_v286 : Ref sig .tc := ⟨.hbm, 359, rfl⟩
abbrev main_v287 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_v304 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_cst_43 : Ref sig .tc := ⟨.hbm, 382, rfl⟩
abbrev main_v309 : Ref sig .tc := ⟨.hbm, 383, rfl⟩
abbrev main_v310 : Ref sig .tc := ⟨.hbm, 384, rfl⟩
abbrev main_cst_44 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_v314 : Ref sig .tc := ⟨.hbm, 389, rfl⟩
abbrev main_v315 : Ref sig .tc := ⟨.hbm, 390, rfl⟩
abbrev main_cst_45 : Ref sig .tc := ⟨.hbm, 391, rfl⟩
abbrev main_v316 : Ref sig .tc := ⟨.hbm, 392, rfl⟩
abbrev main_v317 : Ref sig .tc := ⟨.hbm, 393, rfl⟩
abbrev main_cst_46 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_v322 : Ref sig .tc := ⟨.hbm, 399, rfl⟩
abbrev main_v323 : Ref sig .tc := ⟨.hbm, 400, rfl⟩
abbrev main_v324 : Ref sig .tc := ⟨.hbm, 401, rfl⟩
abbrev main_cst_47 : Ref sig .tc := ⟨.hbm, 402, rfl⟩
abbrev main_v325 : Ref sig .tc := ⟨.hbm, 403, rfl⟩
abbrev main_v326 : Ref sig .tc := ⟨.hbm, 404, rfl⟩
abbrev main_cst_48 : Ref sig .tc := ⟨.hbm, 405, rfl⟩
abbrev main_v327 : Ref sig .tc := ⟨.hbm, 406, rfl⟩
abbrev main_v328 : Ref sig .tc := ⟨.hbm, 407, rfl⟩
abbrev main_v329 : Ref sig .tc := ⟨.hbm, 408, rfl⟩
abbrev main_v330 : Ref sig .tc := ⟨.hbm, 409, rfl⟩
abbrev main_cst_49 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_c : Ref sig .tc := ⟨.hbm, 416, rfl⟩
abbrev main_call1_v0 : Ref sig .tc := ⟨.hbm, 417, rfl⟩
abbrev main_call1_v1 : Ref sig .tc := ⟨.hbm, 418, rfl⟩
abbrev main_call1_v2 : Ref sig .tc := ⟨.hbm, 419, rfl⟩
abbrev main_v336 : Ref sig .tc := ⟨.hbm, 420, rfl⟩
abbrev main_c_50 : Ref sig .tc := ⟨.hbm, 421, rfl⟩
abbrev main_v337 : Ref sig .tc := ⟨.hbm, 422, rfl⟩
abbrev main_c_51 : Ref sig .tc := ⟨.hbm, 423, rfl⟩
abbrev main_v338 : Ref sig .tc := ⟨.hbm, 424, rfl⟩
abbrev main_v339 : Ref sig .tc := ⟨.hbm, 425, rfl⟩
abbrev main_v340 : Ref sig .tc := ⟨.hbm, 426, rfl⟩
abbrev main_v341 : Ref sig .tc := ⟨.hbm, 427, rfl⟩
abbrev main_c_52 : Ref sig .tc := ⟨.hbm, 428, rfl⟩
abbrev main_v342 : Ref sig .tc := ⟨.hbm, 429, rfl⟩
abbrev main_v343 : Ref sig .tc := ⟨.hbm, 430, rfl⟩
abbrev main_c_53 : Ref sig .tc := ⟨.hbm, 431, rfl⟩
abbrev main_call2_v0 : Ref sig .tc := ⟨.hbm, 432, rfl⟩
abbrev main_call2_v1 : Ref sig .tc := ⟨.hbm, 433, rfl⟩
abbrev main_v344 : Ref sig .tc := ⟨.hbm, 434, rfl⟩
abbrev main_v345 : Ref sig .tc := ⟨.hbm, 435, rfl⟩
abbrev main_v346 : Ref sig .tc := ⟨.hbm, 436, rfl⟩
abbrev main_v347 : Ref sig .tc := ⟨.hbm, 437, rfl⟩
abbrev main_call3_c : Ref sig .tc := ⟨.hbm, 438, rfl⟩
abbrev main_call3_v0 : Ref sig .tc := ⟨.hbm, 439, rfl⟩
abbrev main_call3_v1 : Ref sig .tc := ⟨.hbm, 440, rfl⟩
abbrev main_call3_c_0 : Ref sig .tc := ⟨.hbm, 441, rfl⟩
abbrev main_call3_v2 : Ref sig .tc := ⟨.hbm, 442, rfl⟩
abbrev main_call3_v3 : Ref sig .tc := ⟨.hbm, 443, rfl⟩
abbrev main_call3_v4 : Ref sig .tc := ⟨.hbm, 444, rfl⟩
abbrev main_call3_v5 : Ref sig .tc := ⟨.hbm, 445, rfl⟩
abbrev main_call3_c_1 : Ref sig .tc := ⟨.hbm, 446, rfl⟩
abbrev main_call3_c_2 : Ref sig .tc := ⟨.hbm, 447, rfl⟩
abbrev main_call3_v6 : Ref sig .tc := ⟨.hbm, 448, rfl⟩
abbrev main_call3_v7 : Ref sig .tc := ⟨.hbm, 449, rfl⟩
abbrev main_call3_v8 : Ref sig .tc := ⟨.hbm, 450, rfl⟩
abbrev main_call3_v9 : Ref sig .tc := ⟨.hbm, 451, rfl⟩
abbrev main_call3_v10 : Ref sig .tc := ⟨.hbm, 452, rfl⟩
abbrev main_call3_v11 : Ref sig .tc := ⟨.hbm, 453, rfl⟩
abbrev main_call3_c_3 : Ref sig .tc := ⟨.hbm, 454, rfl⟩
abbrev main_call3_v12 : Ref sig .tc := ⟨.hbm, 455, rfl⟩
abbrev main_call3_v13 : Ref sig .tc := ⟨.hbm, 456, rfl⟩
abbrev main_call3_v14 : Ref sig .tc := ⟨.hbm, 457, rfl⟩
abbrev main_call3_cst : Ref sig .tc := ⟨.hbm, 458, rfl⟩
abbrev main_call3_v15 : Ref sig .tc := ⟨.hbm, 459, rfl⟩
abbrev main_v348 : Ref sig .tc := ⟨.hbm, 460, rfl⟩
abbrev main_v349 : Ref sig .tc := ⟨.hbm, 461, rfl⟩
abbrev main_v350 : Ref sig .tc := ⟨.hbm, 462, rfl⟩
abbrev main_cst_54 : Ref sig .tc := ⟨.hbm, 463, rfl⟩
abbrev main_call4_v0 : Ref sig .tc := ⟨.hbm, 464, rfl⟩
abbrev main_call4_v1 : Ref sig .tc := ⟨.hbm, 465, rfl⟩
abbrev main_v351 : Ref sig .tc := ⟨.hbm, 466, rfl⟩

abbrev nD : Nat := 1
abbrev τ : Topo := Topo.v7x

variable {F : FTy → Type} [FloatOps F]
-- ==== Proof.Setup.lean ====
/-
  What the launch of the kernel is stated over: the SparseCore configuration, its facts, the resource algebra (the
  call's handshakes, the two TensorCore pipelines' cells, the counters of transfers in flight), the arrays of the device,
  and what the SparseCore call is handed and gives back: the table, and the 1024 rows the call copies out of it.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Ring
public import Idealize.ShloMosaic.Lib.Batch
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Regions
public import proofs.«01_k».proof.Proof.Gen.KernelIdeal.Skeleton

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The call's handshakes. -/
abbrev UH : Type := URounds (GSem nD τ sig) ℕ
/-- The pipelines' staging cells. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR (A := UH) (B := UP × Counters))
instance EP_landsIn : (EP : Emb UP 𝕄).LandsIn (upEmb : UEmb _ 𝕄) := by unfold EP embR; infer_instance

/-! ## The arrays -/

abbrev xLoc (d : Dev nD) : Loc nD τ sig := (SparseCore.T d).loc main_arg1
abbrev oLoc (d : Dev nD) : Loc nD τ sig := (SparseCore.T d).loc main_v0

/-- The table row that row `i` of the gathered array is: row `r` of step `t` (row `128 t + r`) is table row
    `65536 t + r`. -/
def tabRow (i : S1024x128.Idx) : S524288x128.Idx
  | 0 => ⟨65536 * ((i 0).val / 128) + (i 0).val % 128, by
      have h : (i 0).val < 1024 := (i 0).isLt
      show _ < 524288
      have : (i 0).val / 128 < 8 := by omega
      have : (i 0).val % 128 < 128 := Nat.mod_lt _ (by decide)
      omega⟩
  | 1 => i 1

/-- The 1024 gathered rows, as a function of the table. -/
def gathered (x : S524288x128.Idx → Elt F .f32) : S1024x128.Idx → Elt F .f32 := fun i => x (tabRow i)

variable (m : (ℓ : Loc nD τ sig) → Buf (Elt F) ℓ)

abbrev xPts (d : Dev nD) : sProp 𝕄 := xLoc d ↦{fullShare} m (xLoc d)
abbrev oPts (d : Dev nD) (f : Buf (Elt F) (oLoc d)) : sProp 𝕄 := oLoc d ↦{fullShare} f
/-- What the call's result holds once it has run. -/
def oVal (d : Dev nD) : Buf (Elt F) (oLoc d) := gathered (F := F) (m (xLoc d))

/-- The call is handed the table and its result at anything, and gives back the table and the gathered rows. -/
def P : (K (F := F)).Pay (nD := nD) (Val := Elt F) (Name := ℕ) (U := UU) where
  st := fun _ d _ => iprop(xPts m d ∗ ∃ f, oPts d f)
  dn := fun _ d _ => iprop(xPts m d ∗ oPts d (oVal m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.K

end
-- ==== Proof.Gather.lean ====
/-
  The SparseCore call: one sequencer starts eight copies, rows `65536 t … 65536 t + 127` of the table into rows
  `128 t … 128 t + 127` of the result (`t < 8`), all on one DMA semaphore, and waits eight times. The result is cut into
  its eight row blocks, the table into the eight blocks read and the rest; the eight copies are one counted batch; after
  the last wait the blocks are joined at the gathered rows.
-/
module

public import proofs.«01_k».proof.Proof.Setup

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownSems0 ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the call's two arrays, spelt as the body table passes them
local notation "xW" => (Memref.whole Cert.KernelIdeal.main_arg1_scs : Memref Cert.KernelIdeal.sig Kind.scScalar Space.hbm Cert.KernelIdeal.S524288x128 EltTy.f32)
local notation "oW" => (Memref.whole Cert.KernelIdeal.main_v0_scs : Memref Cert.KernelIdeal.sig Kind.scScalar Space.hbm Cert.KernelIdeal.S1024x128 EltTy.f32)

/-! ## The blocks -/

theorem inb_src (t : Fin 8) : ∀ a, (![65536 * t.val, 0] : Fin 2 → Nat) a + S128x128.size a ≤ S524288x128.size a := by
  have := t.isLt; intro a; fin_cases a
  · show 65536 * t.val + 128 ≤ 524288; omega
  · show 0 + 128 ≤ 128; omega
theorem inb_dst (t : Fin 8) : ∀ a, (![128 * t.val, 0] : Fin 2 → Nat) a + S128x128.size a ≤ S1024x128.size a := by
  have := t.isLt; intro a; fin_cases a
  · show 128 * t.val + 128 ≤ 1024; omega
  · show 0 + 128 ≤ 128; omega

/-- The block of the table that step `t` reads, and the block of the result it fills. -/
def srcW (t : Fin 8) : Memref sig .scScalar .hbm S128x128 .f32 :=
  (xW).slice (Rect.unit (s := S524288x128) ![65536 * t.val, 0] S128x128.size (inb_src t)) (fun _ => rfl)
def dstW (t : Fin 8) : Memref sig .scScalar .hbm S128x128 .f32 :=
  (oW).slice (Rect.unit (s := S1024x128) ![128 * t.val, 0] S128x128.size (inb_dst t)) (fun _ => rfl)

abbrev srcSet (t : Fin 8) : Finset S524288x128.Idx := (Rect.unit (s := S524288x128) ![65536 * t.val, 0] S128x128.size (inb_src t)).set
abbrev dstSet (t : Fin 8) : Finset S1024x128.Idx := (Rect.unit (s := S1024x128) ![128 * t.val, 0] S128x128.size (inb_dst t)).set

theorem srcSet_eq (t : Fin 8) : (srcW t).view.set = srcSet t := View.set_slice_whole _ _
theorem dstSet_eq (t : Fin 8) : (dstW t).view.set = dstSet t := View.set_slice_whole _ _

theorem src_disjoint (t t' : Fin 8) (h : t ≠ t') : Disjoint (srcSet t) (srcSet t') := by
  rw [Finset.disjoint_left]
  intro i hi hi'
  have h1 := (Rect.mem_set_unit.mp hi) 0
  have h2 := (Rect.mem_set_unit.mp hi') 0
  have hb : t.val ≠ t'.val := fun e => h (Fin.ext e)
  change 65536 * t.val ≤ (i 0).val ∧ (i 0).val < 65536 * t.val + 128 at h1
  change 65536 * t'.val ≤ (i 0).val ∧ (i 0).val < 65536 * t'.val + 128 at h2
  omega
theorem dst_disjoint (t t' : Fin 8) (h : t ≠ t') : Disjoint (dstSet t) (dstSet t') :=
  Ring.lead_disjoint (s := S1024x128) (0 : Fin 2) 128 (fun t : Fin 8 => (![128 * t.val, 0] : Fin 2 → Nat)) S128x128.size inb_dst
    (fun t => by simp [Nat.mul_comm]) rfl t t' h
theorem dst_cover : Finset.univ.biUnion dstSet = Finset.univ :=
  Ring.lead_cover (s := S1024x128) (0 : Fin 2) 128 (fun t : Fin 8 => (![128 * t.val, 0] : Fin 2 → Nat)) S128x128.size inb_dst
    (fun t => by simp [Nat.mul_comm]) (fun t a ha => by fin_cases a <;> first | exact absurd rfl ha | rfl) rfl
    (fun a ha => by fin_cases a <;> first | exact absurd rfl ha | rfl) rfl

/-- A family over the eight steps, spelt out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

section Body

variable (d : Dev nD)

def coordsS (c : Fin (grid0.bound 0)) : grid0.Coords := fun | 0 => c | ⟨_ + 1, h⟩ => absurd h (Nat.not_lt.2 (Nat.le_add_left _ _))

/-- The sequencer's thread. -/
abbrev S0 (h : 0 < grid0.bound 0) : Thread nD τ := S d ((⟨0, h⟩ : Fin (grid0.bound 0)).castLE hcore0)

/-- The table whole, as the sequencer addresses it, is its eight blocks and the rest; -/
theorem x_split (c : Fin τ.nSC) (f : Buf (Elt F) (xLoc d)) :
    (xLoc d ↦{fullShare} f : sProp 𝕄)
      = iprop(bigSep Finset.univ (fun t => (srcW t).view.loc (S d c) ↦[(srcW t).view.set]{fullShare} f)
          ∗ xLoc d ↦[Finset.univ \ Finset.univ.biUnion srcSet]{fullShare} f) := by
  have e : (bigSep Finset.univ (fun t => (srcW t).view.loc (S d c) ↦[(srcW t).view.set]{fullShare} f) : sProp 𝕄)
      = bigSep Finset.univ (fun t => xLoc d ↦[srcSet t]{fullShare} f) :=
    congrArg (bigSep Finset.univ) (funext fun t => by rw [srcSet_eq]; rfl)
  rw [e, ← pointsTo_biUnion _ _ fun t _ t' _ h => src_disjoint t t' h]
  have h := pointsTo_split_subset (nD := nD) (τ := τ) (sig := sig) (Ix := HIx 1) (Val := Elt F) (Name := ℕ) (U := UU) (Lvl := ℕ)
    (ℓ := xLoc d) (q := fullShare) (f := f) (Finset.subset_univ (Finset.univ.biUnion srcSet))
  exact BI.equiv_iff.mp ⟨h.1, h.2⟩
/-- the result whole is its eight blocks. -/
theorem o_split (c : Fin τ.nSC) (f : Buf (Elt F) (oLoc d)) :
    (oLoc d ↦{fullShare} f : sProp 𝕄)
      = bigSep Finset.univ (fun t => (dstW t).view.loc (S d c) ↦[(dstW t).view.set]{fullShare} f) := by
  have e : (bigSep Finset.univ (fun t => (dstW t).view.loc (S d c) ↦[(dstW t).view.set]{fullShare} f) : sProp 𝕄)
      = bigSep Finset.univ (fun t => oLoc d ↦[dstSet t]{fullShare} f) :=
    congrArg (bigSep Finset.univ) (funext fun t => by rw [dstSet_eq]; rfl)
  rw [e, ← pointsTo_biUnion _ _ fun t _ t' _ h => dst_disjoint t t' h, dst_cover]

/-! ## The run -/

/-- The semaphore all eight copies complete on. -/
abbrev gsem : DmaSem sig := cc0_scratch0.sem

/-- The contents of the blocks, one family for each array (each at its own block's type). -/
abbrev SrcC (c : Fin τ.nSC) : Type := (t : Fin 8) → Buf (Elt F) ((srcW t).view.loc (S d c))
abbrev DstC (c : Fin τ.nSC) : Type := (t : Fin 8) → Buf (Elt F) ((dstW t).view.loc (S d c))

/-- Block `t` of the result filled with block `t` of the table, as the transfer spells it. -/
abbrev filled (c : Fin τ.nSC) (fs : SrcC (F := F) d c) (fd : DstC (F := F) d c) (t : Fin 8) : Buf (Elt F) ((dstW t).view.loc (S d c)) :=
  (dstW t).view.writes (Elt F) (fd t) [⟨Rect.whole S128x128, ReadAs.same.apply ((srcW t).view.read (Elt F) (fs t))⟩]

/-- On its block it holds the gathered rows. -/
theorem filled_eq (c : Fin τ.nSC) (t : Fin 8) (fs : Buf (Elt F) (xLoc d)) (fd : Buf (Elt F) (oLoc d)) :
    ((dstW t).view.loc (S d c) ↦[(dstW t).view.set]{fullShare} filled d c (fun _ => fs) (fun _ => fd) t : sProp 𝕄)
      = (dstW t).view.loc (S d c) ↦[(dstW t).view.set]{fullShare} (gathered (F := F) fs : Buf (Elt F) (oLoc d)) := by
  refine pointsTo_congr fun i hi => ?_
  obtain ⟨j, -, rfl⟩ := Finset.mem_map.mp hi
  have h := View.read_writes_cons_emb (Val := Elt F) (dstW t).view (f := (fd : Buf (Elt F) ((dstW t).view.loc (S d c)))) (Rect.whole S128x128)
    (ReadAs.same.apply ((srcW t).view.read (Elt F) fs)) [] j
  rw [Rect.emb_whole_apply] at h
  refine Eq.trans (show _ = (dstW t).view.read (Elt F) (filled d c (fun _ => fs) (fun _ => fd) t) j from rfl) (h.trans ?_)
  show fs ((srcW t).view.emb j) = fs (tabRow ((dstW t).view.emb j))
  have hj : (j 0).val < 128 := (j 0).isLt
  have key : ((srcW t).view.emb j : S524288x128.Idx) = tabRow ((dstW t).view.emb j : S1024x128.Idx) := by
    funext (a : Fin 2)
    refine Fin.ext ?_
    match a with
    | 0 =>
      show 65536 * t.val + 1 * (j 0).val = 65536 * ((128 * t.val + 1 * (j 0).val) / 128) + (128 * t.val + 1 * (j 0).val) % 128
      omega
    | 1 => rfl
  exact congrArg fs key

/-- What copy `t` gives back: its block of the result filled, its block of the table. -/
abbrev deliv (c : Fin τ.nSC) (fs : SrcC (F := F) d c) (fd : DstC (F := F) d c) (t : Fin 8) : sProp 𝕄 :=
  iprop(((dstW t).view.loc (S d c) ↦[(dstW t).view.set]{fullShare} filled d c fs fd t)
    ∗ ((srcW t).view.loc (S d c) ↦[(srcW t).view.set]{fullShare} fs t))

/-- One copy's credit. -/
abbrev credit : ℕ := (dstW 0).view.amount (SemLoc.dma gsem)

variable [FloatOps F]

/-- The eight copies from the blocks held apart. -/
theorem copies_run (h : 0 < grid0.bound 0) (O : CellTallies nD τ sig (HIx 1)) (W : Waits sig (HIx 1))
    (fs : SrcC (F := F) d ((⟨0, h⟩ : Fin (grid0.bound 0)).castLE hcore0)) (fd : DstC (F := F) d ((⟨0, h⟩ : Fin (grid0.bound 0)).castLE hcore0)) :
    (iprop(Transfers.MayWaits (S0 d h) (none : HIx 1) O
        ∗ bigSep Finset.univ (fun t => (srcW t).view.loc (S0 d h) ↦[(srcW t).view.set]{fullShare} fs t)
        ∗ bigSep Finset.univ (fun t => (dstW t).view.loc (S0 d h) ↦[(dstW t).view.set]{fullShare} fd t)
        ∗ semVal (S0 d h, SemLoc.dma gsem) 0 ∗ owes (S0 d h) O W) : sProp 𝕄)
      ⊢ wp frame (wpE (defs₀ (F := F)) 𝒱₀ (S0 d h) none) Set.univ
          (cc0_gather_kernel (coordsS ⟨0, h⟩) xW (Memref.isWhole_whole _) oW (Memref.isWhole_whole _) cc0_scratch0)
          fun _ => iprop(bigSep Finset.univ (fun t => (srcW t).view.loc (S0 d h) ↦[(srcW t).view.set]{fullShare} fs t)
            ∗ bigSep Finset.univ (fun t => (dstW t).view.loc (S0 d h) ↦[(dstW t).view.set]{fullShare} filled d _ fs fd t)
            ∗ semVal (S0 d h, SemLoc.dma gsem) 0 ∗ ∃ W', owes (S0 d h) O W') := by
  simp only [bigSep_eight]
  iintro ⟨Hmw, ⟨HC0, HC1, HC2, HC3, HC4, HC5, HC6, HC7⟩, ⟨HD0, HD1, HD2, HD3, HD4, HD5, HD6, HD7⟩, Hs, HO⟩
  iapply (fupd_wp Idealize.ShloMosaic.frame (wpE (defs₀ (F := F)) 𝒱₀ (S0 d h) none) Set.univ)
  imod (Transfers.batch_alloc' (Lvl := ℕ) (countersEmb (U := UU)) (S0 d h) (none : HIx 1) credit (deliv d ((⟨0, h⟩ : Fin (grid0.bound 0)).castLE hcore0) fs fd)
    (sm := .dma gsem) (E := Set.univ)) $$ Hs with HB
  imodintro
  sl_unfold [cc0_gather_kernel]
  sl_exec
  sl_step
  isplitl [HB_src0 HB_src1 HB_src2 HB_src3 HB_src4 HB_src5 HB_src6 HB_src7]
  · sl_close
  isplitl [HB_dst0 HB_dst1 HB_dst2 HB_dst3 HB_dst4 HB_dst5 HB_dst6 HB_dst7]
  · sl_close
  isplitl [HB]; · iexact HB
  iexists _; iexact HO

/-! ## The call's obligation -/

theorem gcell_mem (c : Fin τ.nSC) : ((S d c, SemLoc.dma gsem) : GSem nD τ sig) ∈ ownCells (S d c) :=
  mem_ownCells.mpr ⟨rfl, (show (SemLoc.dma gsem : SemLoc sig).isScoped .scScalar = true by decide)⟩

/-- The sequencer's own cells at zero: the copies' one, and the rest. -/
theorem ownSems0_S (c : Fin τ.nSC) :
    (ownSems0 (S d c) : sProp 𝕄)
      = iprop(semVal (S d c, SemLoc.dma gsem) 0 ∗ bigSep ((ownCells (S d c)).erase (S d c, SemLoc.dma gsem)) fun g => semVal g 0) := by
  unfold SparseCore.Cfg.ownSems0
  exact SparseCore.bigSep_erase' (gcell_mem d c)

variable (m : (ℓ : Loc nD τ sig) → Buf (Elt F) ℓ)

/-- The kernel's body on its sequencer: the table and the result at anything become the table and the gathered rows. -/
theorem body₀ (hF : (K (F := F)).Facts) (h : 0 < grid0.bound 0) (O : CellTallies nD τ sig (HIx 1)) (W : Waits sig (HIx 1))
    (hO : ∀ g, O g none = 0) :
    iprop(levAts (K (F := F)).L (K (F := F)).lev ∗ emp ∗ (xPts m d ∗ ∃ f, oPts d f)
        ∗ scopedBufs (S0 d h) ∗ scopedSems0 (S0 d h) ∗ owes (S0 d h) O W)
      ⊢ wp frame (wpE (defs₀ (F := F)) 𝒱₀ (S0 d h) none) Set.univ
          (cc0_gather_kernel (coordsS ⟨0, h⟩) xW (Memref.isWhole_whole _) oW (Memref.isWhole_whole _) cc0_scratch0)
          fun _ => iprop((xPts m d ∗ oPts d (oVal m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [SparseCore.Cfg.scopedSems0_S (Val := Elt F) d _, ownSems0_S]
  iintro ⟨#Hlv, -, ⟨Hx, %fo, Ho⟩, Hbufs, ⟨⟨HC, Hsems⟩, HtileSems⟩, HO⟩
  ihave Hmw := ((K (F := F)).mayWaits_none (thr := S0 d h) hO) $$ Hlv
  ihave Hx' := (Entails.of_eq (x_split (F := F) d ((⟨0, h⟩ : Fin (grid0.bound 0)).castLE hcore0) (m (xLoc d)))) $$ Hx
  icases Hx' with ⟨Hx, Hrest⟩
  ihave Ho' := (Entails.of_eq (o_split (F := F) d ((⟨0, h⟩ : Fin (grid0.bound 0)).castLE hcore0) fo)) $$ Ho
  iapply (wp_wand_r Idealize.ShloMosaic.frame (wpE (defs₀ (F := F)) 𝒱₀ (S0 d h) none) Set.univ)
  isplitl [Hmw Hx Ho' HC HO]
  · iapply (copies_run (F := F) d h O W (fun _ => m (xLoc d)) (fun _ => fo))
    isplitl [Hmw]; · iexact Hmw
    isplitl [Hx]; · iexact Hx
    isplitl [Ho']; · iexact Ho'
    isplitl [HC]; · iexact HC
    iexact HO
  iintro %_ ⟨Hx, Ho, HC, %W', HO⟩
  isplitl [Hx Ho Hrest]
  · isplitl [Hx Hrest]
    · iapply (Entails.of_eq (x_split (F := F) d ((⟨0, h⟩ : Fin (grid0.bound 0)).castLE hcore0) (m (xLoc d))).symm)
      isplitl [Hx] <;> iassumption
    · iapply (Entails.of_eq ((o_split (F := F) d ((⟨0, h⟩ : Fin (grid0.bound 0)).castLE hcore0) (oVal m d)).trans
        (congrArg (bigSep Finset.univ) (funext fun t => (filled_eq (F := F) d _ t (m (xLoc d)) fo).symm))).symm)
      iexact Ho
  isplitl [Hbufs]; · iexact Hbufs
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

end Body

theorem defs₀_scalar [FloatOps F] (c : Fin τ.nSC) :
    defs₀ (F := F) (.scScalar c) 0 ()
      = SparseCore.onCore hcore0 (fun c => cc0_gather_kernel (coordsS c) xW (Memref.isWhole_whole _) oW (Memref.isWhole_whole _) cc0_scratch0) ⟨⟩ c := by
  rfl

/-- What the launch asks of the call. -/
theorem scalarObl [FloatOps F] (m : (ℓ : Loc nD τ sig) → Buf (Elt F) ℓ) : (K (F := F)).ScalarObl D 𝒱 (P m) v₀ 0 := by
  intro d c O W hO _ _
  simp only [show (P (F := F) m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]
  simp only [SparseCore.onCore, hc, ↓reduceDIte]
  match c with
  | ⟨0, h⟩ => exact body₀ d m facts h O W hO

end Cert.Proof.K

end
-- ==== Proof.Sel.lean ====
/-
  The first TensorCore call: the selection mask of the leaves, whole arrays staged in and out, its body one load, the
  arithmetic, one store. Its proof data at an entry valuation, its body's run, and its region.
-/
module

public import proofs.«01_k».proof.Proof.Setup
public import Idealize.ShloMosaic.Lib.Pipeline.RegionArraysS
public import Idealize.ShloMosaic.Lib.VecWindow

@[expose] public section

noncomputable section

namespace Cert.Proof.K

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- A buffer of the TensorCore held whole. -/
abbrev bpt {sp : Space} {s : Shape} {e : EltTy} (c : Dev nD) (M : Memref sig .tc sp s e)
    (f : Buf (Elt F) (M.view.loc (c : Thread nD τ))) : sProp 𝕄 :=
  M.view.loc (c : Thread nD τ) ↦{fullShare} f

/-- The selection body's run: it reads the payload array and stores the mask whole. -/
theorem sel_run (c : Dev nD) (M0 : Memref sig .tc .vmem S256x128 .f32) (h0 : M0.IsWhole) (M1 : Memref sig .tc .vmem S256x128 .f32) (h1 : M1.IsWhole)
    (f0 : Buf (Elt F) (M0.view.loc (c : Thread nD τ))) (f1 : Buf (Elt F) (M1.view.loc (c : Thread nD τ))) (E : Set ℕ) (Q : PUnit → sProp 𝕄) :
    iprop(bpt c M0 f0 ∗ bpt c M1 f1 ∗
        (iprop(bpt c M0 f0 ∗ ∃ g, ⌜M1.view.read (Elt F) g = k1_pay1 (M0.view.read (Elt F) f0)⌝ ∗ bpt c M1 g) -∗ Q ⟨⟩))
      ⊢ wp frame (wpE (defs₀ (F := F)) 𝒱₀ c none) E (cc1__sel_body M0 h0 M1 h1) Q := by
  rw [cc1__sel_body_eq_skeleton]
  iintro ⟨H0, H1, Hk⟩
  sl_unfold [cc1__sel_body_skel]
  sl_exec
  sl_step
  iapply Hk
  isplitl [H0]; · iexact H0
  iexists _
  isplitr; swap; (· iexact H1)
  ipureintro
  rw [View.read_writes_full, View.readAt_full]

end Cert.Proof.K

end
-- ==== Proof.Cell.lean ====
/-
  The LSTM call's arithmetic in plain words: a step's gates, cell and output over whole vectors, the eight steps in
  order, the eight masked products that pick the leaves; and the payloads of the printed body are these.
-/
module

public import proofs.«01_k».proof.Proof.Gen.KernelIdeal.Skeleton
public import Idealize.ShloMosaic.Lib.VecWindow
public import Idealize.ShloMosaic.Lib.ValueIdxCore
public import Idealize.ShloMosaic.Lib.Pipeline.Value

@[expose] public section

noncomputable section

namespace Cert.Proof.K

open Cert.KernelIdeal Cert.KernelIdeal.Gen
open Idealize.ShloMosaic Idealize.ShloMosaic.ValueIdx

variable {F : FTy → Type} [FloatOps F]

/-- One half, the scalar. -/
abbrev half : F .f32 := Scalar.ofBits .f32 0x3F000000#32

/-- The hyperbolic form of the logistic function, at every element. -/
def sg (x : FVec F S128x128 .f32) : FVec F S128x128 .f32 :=
  addf (broadcast S128x128 half) (mulf (broadcast S128x128 half) (tanh (mulf (broadcast S128x128 half) x)))

/-- The four gates of a step, as slices of the wide vector. -/
def gI (g : FVec F S128x512 .f32) : FVec F S128x128 .f32 := extractStridedSlice S128x128 ![0, 0] g slices_S128x512_o0_0_S128x128
def gF (g : FVec F S128x512 .f32) : FVec F S128x128 .f32 := extractStridedSlice S128x128 ![0, 128] g slices_S128x512_o0_128_S128x128
def gG (g : FVec F S128x512 .f32) : FVec F S128x128 .f32 := extractStridedSlice S128x128 ![0, 256] g slices_S128x512_o0_256_S128x128
def gO (g : FVec F S128x512 .f32) : FVec F S128x128 .f32 := extractStridedSlice S128x128 ![0, 384] g slices_S128x512_o0_384_S128x128

/-- The wide vector of a step: both products and the bias. -/
def gates (b : FVec F S1x512 .f32) (wi wh : Vec F S512x128 .f32) (h : FVec F S128x128 .f32) (x : Vec F S128x1x128 .f32) : FVec F S128x512 .f32 :=
  addf (addf
      (matmul dot_S128x128_S512x128_S128x512_1_1_0_0_n_n none (shapeCast S128x128 x shapeCasts_S128x1x128_S128x128) wi (constant S128x512 .f32 0x00000000#32))
      (matmul dot_S128x128_S512x128_S128x512_1_1_0_0_n_n none h wh (constant S128x512 .f32 0x00000000#32)))
    (broadcastTo S128x512 b broadcasts_S1x512_S128x512)

/-- The next cell state and the next output. -/
def cellC (g : FVec F S128x512 .f32) (c : FVec F S128x128 .f32) : FVec F S128x128 .f32 :=
  addf (mulf (sg (gF g)) c) (mulf (sg (gI g)) (tanh (gG g)))
def cellH (g : FVec F S128x512 .f32) (c' : FVec F S128x128 .f32) : FVec F S128x128 .f32 := mulf (sg (gO g)) (tanh c')

/-- The zero state. -/
def zst : FVec F S128x128 .f32 := broadcast S128x128 (Scalar.ofBits .f32 0x00000000#32)

/-- Output and cell after `t` steps over the inputs `xs`. -/
def st (b : FVec F S1x512 .f32) (wi wh : Vec F S512x128 .f32) (xs : ℕ → Vec F S128x1x128 .f32) : ℕ → FVec F S128x128 .f32 × FVec F S128x128 .f32
  | 0 => (zst, zst)
  | t + 1 =>
    (cellH (gates b wi wh (st b wi wh xs t).1 (xs t)) (cellC (gates b wi wh (st b wi wh xs t).1 (xs t)) (st b wi wh xs t).2),
      cellC (gates b wi wh (st b wi wh xs t).1 (xs t)) (st b wi wh xs t).2)

/-- The product that picks, at every leaf, its selected node of tree `t`: the mask kept on the lanes of that tree. -/
def pick (oh : Vec F S256x128 .f32) (h : FVec F S128x128 .f32) (t : BitVec 32) : FVec F S256x1x128 .f32 :=
  shapeCast S256x1x128
    (matmul dot_S256x128_S128x128_S256x128_1_0_0_1_n_n none
      (select (cmpi .eq (shrsi (iota .tc S256x128 32 [1] iota_S256x128_d1_w32) (broadcast S256x128 4#32)) (broadcast S256x128 t))
        (shapeCast S256x128 oh shapeCasts_S256x128_S256x128) (broadcast S256x128 (Scalar.ofBits .f32 0x00000000#32 : F .f32)))
      h (constant S256x128 .f32 0x00000000#32))
    shapeCasts_S256x128_S256x1x128

section
variable (b : FVec F S1x512 .f32) (b1 b2 : Vec F S1x512 .f32) (wi wh : Vec F S512x128 .f32) (x : Vec F S128x1x128 .f32)
  (g : FVec F S128x512 .f32) (c h : FVec F S128x128 .f32) (oh : Vec F S256x128 .f32)

set_option maxRecDepth 65536

theorem p3 : k2_pay3 (F := F) = zst := rfl
theorem p4 : k2_pay4 b1 b2 = addf b1 b2 := by
  show addf (shapeCast _ b1 _) (shapeCast _ b2 _) = _
  rw [_root_.Idealize.ShloMosaic.shapeCast_self, _root_.Idealize.ShloMosaic.shapeCast_self]
theorem p6 : k2_pay6 b1 b2 wi wh x = gG (gates (k2_pay4 b1 b2) wi wh zst x) := rfl
theorem p7 : k2_pay7 b1 b2 wi wh x = sg (gI (gates (k2_pay4 b1 b2) wi wh zst x)) := rfl
theorem p8 : k2_pay8 b1 b2 wi wh x = sg (gF (gates (k2_pay4 b1 b2) wi wh zst x)) := rfl
theorem p9 : k2_pay9 b1 b2 wi wh x = tanh (mulf (broadcast S128x128 half) (gO (gates (k2_pay4 b1 b2) wi wh zst x))) := rfl
theorem p12 : k2_pay12 c b wi wh (gG g) (sg (gI g)) (sg (gF g)) (tanh (mulf (broadcast S128x128 half) (gO g))) half x
    = sg (gO (gates b wi wh (cellH g (cellC g c)) x)) := rfl
theorem p13 : k2_pay13 c b wi wh (gG g) (sg (gI g)) (sg (gF g)) (tanh (mulf (broadcast S128x128 half) (gO g))) half x
    = mulf (sg (gF (gates b wi wh (cellH g (cellC g c)) x))) (cellC g c) := rfl
theorem p14 : k2_pay14 c b wi wh (gG g) (sg (gI g)) (sg (gF g)) (tanh (mulf (broadcast S128x128 half) (gO g))) half x
    = mulf (sg (gI (gates b wi wh (cellH g (cellC g c)) x))) (tanh (gG (gates b wi wh (cellH g (cellC g c)) x))) := rfl
theorem p17 : k2_pay17 b wi wh (sg (gO g)) (mulf (sg (gF g)) c) (mulf (sg (gI g)) (tanh (gG g))) x
    = cellC (gates b wi wh (cellH g (cellC g c)) x) (cellC g c) := rfl
theorem p18 : k2_pay18 b wi wh (sg (gO g)) (mulf (sg (gF g)) c) (mulf (sg (gI g)) (tanh (gG g))) x
    = cellH (gates b wi wh (cellH g (cellC g c)) x) (cellC (gates b wi wh (cellH g (cellC g c)) x) (cellC g c)) := rfl
theorem p21 : k2_pay21 b wi wh c h (k2_pay19 x) = cellC (gates b wi wh h x) c := rfl
theorem p22 (x' : Vec F S128x1x128 .f32) : k2_pay22 b wi wh c h (k2_pay19 x) x'
    = gates b wi wh (cellH (gates b wi wh h x) (cellC (gates b wi wh h x) c)) x' := rfl
theorem p23 (x' : Vec F S128x1x128 .f32) : k2_pay23 b wi wh c h (k2_pay19 x) x'
    = gI (gates b wi wh (cellH (gates b wi wh h x) (cellC (gates b wi wh h x) c)) x') := rfl
theorem p24 : k2_pay24 c g (gI g) = cellC g c := rfl
theorem p26 : k2_pay26 b wi wh c g (gI g) x = gF (gates b wi wh (cellH g (cellC g c)) x) := rfl
theorem p27 : k2_pay27 b wi wh c g (gI g) x = gG (gates b wi wh (cellH g (cellC g c)) x) := rfl
theorem p28 : k2_pay28 b wi wh c g (gI g) x = gO (gates b wi wh (cellH g (cellC g c)) x) := rfl
theorem p29 : k2_pay29 b wi wh c g (gI g) x = tanh (mulf (broadcast S128x128 half) (gI (gates b wi wh (cellH g (cellC g c)) x))) := rfl
theorem p30 : k2_pay30 c (gF g) (gG g) (tanh (mulf (broadcast S128x128 half) (gI g))) half = cellC g c := rfl
theorem p32 : k2_pay32 b wi wh c (gF g) (gG g) (gO g) (tanh (mulf (broadcast S128x128 half) (gI g))) half x
    = gG (gates b wi wh (cellH g (cellC g c)) x) := rfl
theorem p33 : k2_pay33 b wi wh c (gF g) (gG g) (gO g) (tanh (mulf (broadcast S128x128 half) (gI g))) half x
    = gO (gates b wi wh (cellH g (cellC g c)) x) := rfl
theorem p34 : k2_pay34 b wi wh c (gF g) (gG g) (gO g) (tanh (mulf (broadcast S128x128 half) (gI g))) half x
    = sg (gI (gates b wi wh (cellH g (cellC g c)) x)) := rfl
theorem p35 : k2_pay35 b wi wh c (gF g) (gG g) (gO g) (tanh (mulf (broadcast S128x128 half) (gI g))) half x
    = mulf (broadcast S128x128 half) (gF (gates b wi wh (cellH g (cellC g c)) x)) := rfl
theorem p36 : k2_pay36 c (gG g) (sg (gI g)) (mulf (broadcast S128x128 half) (gF g)) = cellC g c := rfl
theorem p38 : k2_pay38 b wi wh c (gG g) (gO g) (sg (gI g)) (mulf (broadcast S128x128 half) (gF g)) x
    = gG (gates b wi wh (cellH g (cellC g c)) x) := rfl
theorem p39 : k2_pay39 b wi wh c (gG g) (gO g) (sg (gI g)) (mulf (broadcast S128x128 half) (gF g)) x
    = gO (gates b wi wh (cellH g (cellC g c)) x) := rfl
theorem p40 : k2_pay40 b wi wh c (gG g) (gO g) (sg (gI g)) (mulf (broadcast S128x128 half) (gF g)) x
    = sg (gI (gates b wi wh (cellH g (cellC g c)) x)) := rfl
theorem p41 : k2_pay41 b wi wh c (gG g) (gO g) (sg (gI g)) (mulf (broadcast S128x128 half) (gF g)) x
    = sg (gF (gates b wi wh (cellH g (cellC g c)) x)) := rfl
theorem p42 : k2_pay42 c (gG g) (gO g) (sg (gI g)) (sg (gF g)) half = cellH g (cellC g c) := rfl
theorem p45 : k2_pay45 c (gG g) (gO g) (sg (gI g)) (sg (gF g)) half oh = pick oh (cellH g (cellC g c)) 0#32 := rfl
theorem p46 : k2_pay46 c (gG g) (gO g) (sg (gI g)) (sg (gF g)) half oh = pick oh (cellH g (cellC g c)) 1#32 := rfl
theorem p48 : k2_pay48 h (k2_pay47 oh) (constant S256x128 .f32 0x00000000#32) = pick oh h 2#32 := rfl
theorem p49 : k2_pay49 h (k2_pay43 oh) k2_pay44 = pick oh h 3#32 := rfl
theorem p50 : k2_pay50 h (k2_pay43 oh) k2_pay44 = pick oh h 4#32 := rfl
theorem p51 : k2_pay51 h (k2_pay43 oh) k2_pay44 = pick oh h 5#32 := rfl
theorem p1 : k2_pay1 h (k2_pay52 (k2_pay43 oh) k2_pay44) (constant S256x128 .f32 0x00000000#32) = pick oh h 6#32 := rfl
theorem p2 : k2_pay2 h (k2_pay43 oh) k2_pay44 = pick oh h 7#32 := rfl
end

/-- Step `t`'s input: that step's plane of the gathered rows. -/
def plane (x : S128x8x128.Idx → F .f32) (t : ℕ) : Vec F S128x1x128 .f32 :=
  fun y => x (ix3 (n0 := 128) (n1 := 8) (n2 := 128) (y 0) ⟨t % 8, Nat.mod_lt _ (by decide)⟩ (y 2))

/-- The output after the eighth step. -/
def lstmH (x : S128x8x128.Idx → F .f32) (wi wh : Vec F S512x128 .f32) (bi bh : Vec F S1x512 .f32) : FVec F S128x128 .f32 :=
  (st (addf bi bh) wi wh (plane x) 8).1

/-- The call's result: at every leaf and tree the picked row. -/
def tcOut (x : S128x8x128.Idx → F .f32) (oh : Vec F S256x128 .f32) (wi wh : Vec F S512x128 .f32) (bi bh : Vec F S1x512 .f32) : S256x8x128.Idx → F .f32 :=
  fun i => pick oh (lstmH x wi wh bi bh) (BitVec.ofNat 32 (i 1).val) (ix3 (n0 := 256) (n1 := 1) (n2 := 128) (i 0) 0 (i 2))

end Cert.Proof.K

end
-- ==== Proof.LstmRun.lean ====
/-
  The second TensorCore call's body, run once: from the six inputs' contents to the result's eight planes.
-/
module

public import proofs.«01_k».proof.Proof.Sel
public import proofs.«01_k».proof.Proof.Cell

@[expose] public section

noncomputable section

namespace Cert.Proof.K

open Cert.KernelIdeal Cert.KernelIdeal.Gen

open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A load of one plane reads that plane. -/
theorem readAt_plane (v : View sig .tc .vmem S128x8x128 .f32) (f : v.ty.Contents (Elt F)) (t : ℕ) (ht : t < 8)
    (inb : ∀ a, (![0, t, 0] : Fin 3 → ℕ) a + S128x1x128.size a ≤ S128x8x128.size a) :
    v.readAt (Elt F) (Rect.unit (s := S128x8x128) ![0, t, 0] S128x1x128.size inb).toLoadRect f = plane (v.read (Elt F) f) t := by
  rw [View.readAt_unit v f inb rfl inb]
  funext y
  refine congrArg (v.read (Elt F) f) (funext fun (a : Fin 3) => Fin.ext ?_)
  show (![0, t, 0] : Fin 3 → ℕ) a + 1 * (y a).val = _
  match a with
  | 0 => show 0 + 1 * (y 0).val = (y 0).val; omega
  | 1 =>
    have h1 : (y 1).val < 1 := (y 1).isLt
    show t + 1 * (y 1).val = t % 8
    rw [Nat.mod_eq_of_lt ht]; omega
  | 2 => show 0 + 1 * (y 2).val = (y 2).val; omega

/-- Eight stores of a plane each leave the array of those planes. -/
theorem read_planes (v : View sig .tc .vmem S256x8x128 .f32) (f : v.ty.Contents (Elt F)) (p : BitVec 32 → FVec F S256x1x128 .f32) :
    v.read (Elt F) (v.writes (Elt F) f
      [⟨Rect.unit (s := S256x8x128) ![0, 7, 0] S256x1x128.size inb_S256x8x128_S256x1x128_0_7_0, p 7#32⟩,
        ⟨Rect.unit (s := S256x8x128) ![0, 6, 0] S256x1x128.size inb_S256x8x128_S256x1x128_0_6_0, p 6#32⟩,
        ⟨Rect.unit (s := S256x8x128) ![0, 5, 0] S256x1x128.size inb_S256x8x128_S256x1x128_0_5_0, p 5#32⟩,
        ⟨Rect.unit (s := S256x8x128) ![0, 4, 0] S256x1x128.size inb_S256x8x128_S256x1x128_0_4_0, p 4#32⟩,
        ⟨Rect.unit (s := S256x8x128) ![0, 3, 0] S256x1x128.size inb_S256x8x128_S256x1x128_0_3_0, p 3#32⟩,
        ⟨Rect.unit (s := S256x8x128) ![0, 2, 0] S256x1x128.size inb_S256x8x128_S256x1x128_0_2_0, p 2#32⟩,
        ⟨Rect.unit (s := S256x8x128) ![0, 1, 0] S256x1x128.size inb_S256x8x128_S256x1x128_0_1_0, p 1#32⟩,
        ⟨Rect.unit (s := S256x8x128) ![0, 0, 0] S256x1x128.size inb_S256x8x128_S256x1x128_0_0_0, p 0#32⟩])
      = fun i => p (BitVec.ofNat 32 (i 1).val) (ix3 (n0 := 256) (n1 := 1) (n2 := 128) (i 0) 0 (i 2)) := by
  simp only [View.read_writes_cons_put v f _ _ _ rfl]
  funext i
  obtain ⟨a, b, d, rfl⟩ : ∃ (a : Fin 256) (b : Fin 8) (d : Fin 128), i = ix3 a b d := ⟨_, _, _, eq_ix3 i⟩
  have key : ∀ (g : S256x8x128.Idx → F .f32) (t : ℕ) (w : FVec F S256x1x128 .f32),
      VecWindow.put (s := S256x8x128) g ![0, t, 0] S256x1x128.size w (ix3 a b d) = if b.val = t then w (ix3 a 0 d) else g (ix3 a b d) := by
    intro g t w
    have ha := a.isLt
    have hd := d.isLt
    by_cases hb : b.val = t
    · subst hb
      rw [if_pos rfl]
      refine (dif_pos (fun (k : Fin 3) => ?_)).trans (congrArg w (funext fun (k : Fin 3) => Fin.ext ?_))
      · match k with
        | 0 => exact ⟨Nat.zero_le _, show a.val < 0 + 256 by omega⟩
        | 1 => exact ⟨le_refl _, show b.val < b.val + 1 by omega⟩
        | 2 => exact ⟨Nat.zero_le _, show d.val < 0 + 128 by omega⟩
      · match k with
        | 0 => show a.val - 0 = a.val; omega
        | 1 => show b.val - b.val = 0; omega
        | 2 => show d.val - 0 = d.val; omega
    · rw [if_neg hb]
      refine dif_neg fun h => hb ?_
      have h1 := h (1 : Fin 3)
      have h2 : t ≤ b.val ∧ b.val < t + 1 := h1
      omega
  simp only [key]
  show _ = p (BitVec.ofNat 32 b.val) (ix3 a 0 d)
  match b with
  | 0 => rfl
  | 1 => rfl
  | 2 => rfl
  | 3 => rfl
  | 4 => rfl
  | 5 => rfl
  | 6 => rfl
  | 7 => rfl

section
variable (c : Dev nD) (M0 : Memref sig .tc .vmem S128x8x128 .f32) (h0 : M0.IsWhole) (M1 : Memref sig .tc .vmem S256x128 .f32) (h1 : M1.IsWhole)
  (M2 : Memref sig .tc .vmem S512x128 .f32) (h2 : M2.IsWhole) (M3 : Memref sig .tc .vmem S512x128 .f32) (h3 : M3.IsWhole)
  (M4 : Memref sig .tc .vmem S1x512 .f32) (h4 : M4.IsWhole) (M5 : Memref sig .tc .vmem S1x512 .f32) (h5 : M5.IsWhole)
  (M6 : Memref sig .tc .vmem S256x8x128 .f32) (h6 : M6.IsWhole)

/-- The body's run: it reads its six inputs and leaves the eight picked planes. -/
theorem lstm_run
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ)))
    (f6 : Buf (Elt F) (M6.view.loc (c : Thread nD τ))) (E : Set ℕ) (Q : PUnit → sProp 𝕄) :
    iprop(bpt c M0 f0 ∗ bpt c M1 f1 ∗ bpt c M2 f2 ∗ bpt c M3 f3 ∗ bpt c M4 f4 ∗ bpt c M5 f5 ∗ bpt c M6 f6 ∗
        (iprop(bpt c M0 f0 ∗ bpt c M1 f1 ∗ bpt c M2 f2 ∗ bpt c M3 f3 ∗ bpt c M4 f4 ∗ bpt c M5 f5 ∗
          ∃ g, ⌜M6.view.read (Elt F) g = tcOut (M0.view.read (Elt F) f0) (M1.view.read (Elt F) f1) (M2.view.read (Elt F) f2)
            (M3.view.read (Elt F) f3) (M4.view.read (Elt F) f4) (M5.view.read (Elt F) f5)⌝ ∗ bpt c M6 g) -∗ Q ⟨⟩))
      ⊢ wp frame (wpE (defs₀ (F := F)) 𝒱₀ c none) E (cc2__tc_body M0 h0 M1 h1 M2 h2 M3 h3 M4 h4 M5 h5 M6 h6) Q := by
  rw [cc2__tc_body_eq_skeleton]
  iintro ⟨H0, H1, H2, H3, H4, H5, H6, Hk⟩
  sl_unfold [cc2__tc_body_skel]
  rw [k2_part1_eq_skeleton, k2_part2_eq_skeleton, k2_part3_eq_skeleton, k2_part4_eq_skeleton, k2_part5_eq_skeleton,
    k2_part6_eq_skeleton, k2_part7_eq_skeleton, k2_part8_eq_skeleton, k2_part9_eq_skeleton]
  sl_unfold [k2_part1_skel, k2_part2_skel, k2_part3_skel, k2_part4_skel, k2_part5_skel, k2_part6_skel, k2_part7_skel, k2_part8_skel, k2_part9_skel]
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  iexists _
  isplitr; swap; (· iexact H6)
  ipureintro
  have hc : lstm_run.sl.cst_20 = (half : F .f32) := rfl
  simp only [hc, p3, p6, p7, p8, p9, p12, p13, p14, p17, p18, p21, p22, p23, p24, p26, p27, p28, p29, p30, p32, p33, p34, p35, p36, p38,
    p39, p40, p41, p42, p45, p46, p48, p49, p50, p51, p1, p2]
  have e1 : View.readAt (Elt F) M1.view (Rect.unit ![0, 0] ![256, 128] inb_S256x128_S256x128_0_0).toLoadRect f1 = M1.view.read (Elt F) f1 := View.readAt_full _ _ _
  have e2 : View.readAt (Elt F) M2.view (Rect.unit ![0, 0] ![512, 128] inb_S512x128_S512x128_0_0).toLoadRect f2 = M2.view.read (Elt F) f2 := View.readAt_full _ _ _
  have e3 : View.readAt (Elt F) M3.view (Rect.unit ![0, 0] ![512, 128] inb_S512x128_S512x128_0_0).toLoadRect f3 = M3.view.read (Elt F) f3 := View.readAt_full _ _ _
  have e4 : View.readAt (Elt F) M4.view (Rect.unit ![0, 0] ![1, 512] inb_S1x512_S1x512_0_0).toLoadRect f4 = M4.view.read (Elt F) f4 := View.readAt_full _ _ _
  have e5 : View.readAt (Elt F) M5.view (Rect.unit ![0, 0] ![1, 512] inb_S1x512_S1x512_0_0).toLoadRect f5 = M5.view.read (Elt F) f5 := View.readAt_full _ _ _
  have x0 : View.readAt (Elt F) M0.view (Rect.unit ![0, 0, 0] ![128, 1, 128] inb_S128x8x128_S128x1x128_0_0_0).toLoadRect f0 = plane (M0.view.read (Elt F) f0) 0 :=
    readAt_plane _ _ 0 (by decide) _
  have x1 : View.readAt (Elt F) M0.view (Rect.unit ![0, 1, 0] ![128, 1, 128] inb_S128x8x128_S128x1x128_0_1_0).toLoadRect f0 = plane (M0.view.read (Elt F) f0) 1 :=
    readAt_plane _ _ 1 (by decide) _
  have x2 : View.readAt (Elt F) M0.view (Rect.unit ![0, 2, 0] ![128, 1, 128] inb_S128x8x128_S128x1x128_0_2_0).toLoadRect f0 = plane (M0.view.read (Elt F) f0) 2 :=
    readAt_plane _ _ 2 (by decide) _
  have x3 : View.readAt (Elt F) M0.view (Rect.unit ![0, 3, 0] ![128, 1, 128] inb_S128x8x128_S128x1x128_0_3_0).toLoadRect f0 = plane (M0.view.read (Elt F) f0) 3 :=
    readAt_plane _ _ 3 (by decide) _
  have x4 : View.readAt (Elt F) M0.view (Rect.unit ![0, 4, 0] ![128, 1, 128] inb_S128x8x128_S128x1x128_0_4_0).toLoadRect f0 = plane (M0.view.read (Elt F) f0) 4 :=
    readAt_plane _ _ 4 (by decide) _
  have x5 : View.readAt (Elt F) M0.view (Rect.unit ![0, 5, 0] ![128, 1, 128] inb_S128x8x128_S128x1x128_0_5_0).toLoadRect f0 = plane (M0.view.read (Elt F) f0) 5 :=
    readAt_plane _ _ 5 (by decide) _
  have x6 : View.readAt (Elt F) M0.view (Rect.unit ![0, 6, 0] ![128, 1, 128] inb_S128x8x128_S128x1x128_0_6_0).toLoadRect f0 = plane (M0.view.read (Elt F) f0) 6 :=
    readAt_plane _ _ 6 (by decide) _
  have x7 : View.readAt (Elt F) M0.view (Rect.unit ![0, 7, 0] ![128, 1, 128] inb_S128x8x128_S128x1x128_0_7_0).toLoadRect f0 = plane (M0.view.read (Elt F) f0) 7 :=
    readAt_plane _ _ 7 (by decide) _
  simp only [e1, e2, e3, e4, e5, x0, x1, x2, x3, x4, x5, x6, x7, p4]
  exact read_planes M6.view f6 (pick (M1.view.read (Elt F) f1) (lstmH (M0.view.read (Elt F) f0) (M2.view.read (Elt F) f2)
    (M3.view.read (Elt F) f3) (M4.view.read (Elt F) f4) (M5.view.read (Elt F) f5)))
end

end Cert.Proof.K

end
-- ==== Proof.Regions.lean ====
/-
  The two TensorCore calls as regions of the run: the proof data of each at an entry valuation, the body obligations
  from the bodies' runs, what each leaves in its result array, and the region records over the held buffers.
-/
module

public import proofs.«01_k».proof.Proof.LstmRun

@[expose] public section

noncomputable section

namespace Cert.Proof.K

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- The launch's choice of prefetched tables: there are none. -/
abbrev adm : (p : Fin 2) → (pcfgs (F := F) p).Adm := fun p => (cfgs p).toPCfg_adm

variable (W : (c : Dev nD) → Valuation τ sig (Elt F))

/-- The buffer a valuation gives a TensorCore's reference. -/
abbrev at' (c : Dev nD) (b : Ref sig .tc) := W c (Proc.devRef .tc b)

/-! ## The selection -/

/-- The selection's proof data: its input staged, its result the mask. -/
def dat1 (c : Dev nD) : Dat τ (Elt F) (HIx 1) ℕ UU ℕ cfg1 c where
  A w := W c (Proc.devRef .tc (Pipeline.arrRef spec1 w))
  after w _ := match w with
    | ⟨0, _⟩ => (W c (Proc.devRef .tc main_arg0) : S256x128.Idx → Elt F .f32)
    | ⟨1, _⟩ => (k1_pay1 (W c (Proc.devRef .tc main_arg0) : S256x128.Idx → Elt F .f32) : S256x128.Idx → Elt F .f32)
  Φ _ := Pipeline.scopedRest spec1 c
  q _ := fullShare
  owed _ := 0

theorem before1_0 (c : Dev nD) (d : S256x128.Idx → Elt F .f32) : (dat1 W c).before 0 t1_0 d = W c (Proc.devRef .tc main_arg0) := by
  unfold Dat.before; rw [if_pos (by decide)]
  funext i
  refine congrArg (W c (Proc.devRef .tc main_arg0)) (funext fun a => Fin.ext ?_)
  show 0 * _ + 1 * (i a).val = (i a).val
  omega

theorem obl1 (c : Dev nD) : BodyObligation (dat1 W c) (defs₀ (F := F)) 𝒱₀ (none : HIx 1) Set.univ := fun t => by
  obtain rfl := fin_N1 t
  rw [bigSep_W1, bigSep_W1]
  simp only [owns_whole_eq]
  rw [show (dat1 W c).Φ t1_0.castSucc = Pipeline.scopedRest spec1 c from rfl, show (dat1 W c).Φ t1_0.succ = Pipeline.scopedRest spec1 c from rfl,
    show (dat1 W c).owesAt none t1_0.succ = (dat1 W c).owesAt none t1_0.castSucc from rfl]
  iintro ⟨HΦ, Howes, ⟨%d0, %f0, %hf0, H0⟩, ⟨%d1, %f1, -, H1⟩⟩
  rw [before1_0] at hf0
  subst hf0
  iapply (sel_run c (stage1_0 0) (hstage1_0 0) (stage1_1 0) (hstage1_1 0) _ f1 Set.univ _)
  isplitl [H0]; · iexact H0
  isplitl [H1]; · iexact H1
  iintro ⟨H0, ⟨%g, %hg, H1⟩⟩
  isplitl [HΦ]; · iexact HΦ
  isplitl [Howes]; · iexact Howes
  isplitl [H0]; · iexists _; isplitr; swap; (· iexact H0); ipureintro; dsimp only [dat1]
  iexists g; isplitr; swap; (· iexact H1); ipureintro; exact hg

/-- What the selection leaves in its result: the mask of the launch payloads. -/
theorem arr1 (c : Dev nD) : (dat1 W c).arrAt 1 cfg1.N = (k1_pay1 (W c (Proc.devRef .tc main_arg0) : S256x128.Idx → Elt F .f32) : S256x128.Idx → Elt F .f32) := by
  have hb : ∀ i : S256x128.Idx, ((cfg1.win 1).blk t1_0).view.emb i = i := fun i => funext fun a => Fin.ext (by
    show 0 * _ + 1 * (i a).val = (i a).val; omega)
  refine Dat.arrAt_eq_of_cover (dat1 W c) 1 _ (fun t _ => ?_) fun i => ⟨t1_0, by decide, ?_⟩
  · obtain rfl := fin_N1 t
    funext i
    exact congrArg (k1_pay1 (W c (Proc.devRef .tc main_arg0) : S256x128.Idx → Elt F .f32) : S256x128.Idx → Elt F .f32) (hb i).symm
  · exact Finset.mem_map.mpr ⟨i, Finset.mem_univ _, hb i⟩

/-! ## The LSTM -/

/-- The result of the second call as a function of the valuation it is entered at. -/
def out2 (c : Dev nD) : S256x8x128.Idx → Elt F .f32 :=
  tcOut (W c (Proc.devRef .tc main_v1)) (W c (Proc.devRef .tc main_v2)) (W c (Proc.devRef .tc main_arg2)) (W c (Proc.devRef .tc main_arg3))
    (W c (Proc.devRef .tc main_v3)) (W c (Proc.devRef .tc main_v4))

/-- The LSTM call's proof data: its six inputs staged, its result the picked planes. -/
def dat2 (c : Dev nD) : Dat τ (Elt F) (HIx 1) ℕ UU ℕ cfg2 c where
  A w := W c (Proc.devRef .tc (Pipeline.arrRef spec2 w))
  after w _ := match w with
    | ⟨0, _⟩ => (W c (Proc.devRef .tc main_v1) : S128x8x128.Idx → Elt F .f32)
    | ⟨1, _⟩ => (W c (Proc.devRef .tc main_v2) : S256x128.Idx → Elt F .f32)
    | ⟨2, _⟩ => (W c (Proc.devRef .tc main_arg2) : S512x128.Idx → Elt F .f32)
    | ⟨3, _⟩ => (W c (Proc.devRef .tc main_arg3) : S512x128.Idx → Elt F .f32)
    | ⟨4, _⟩ => (W c (Proc.devRef .tc main_v3) : S1x512.Idx → Elt F .f32)
    | ⟨5, _⟩ => (W c (Proc.devRef .tc main_v4) : S1x512.Idx → Elt F .f32)
    | ⟨6, _⟩ => (out2 W c : S256x8x128.Idx → Elt F .f32)
  Φ _ := Pipeline.scopedRest spec2 c
  q _ := fullShare
  owed _ := 0

theorem before2_0 (c : Dev nD) (d : S128x8x128.Idx → Elt F .f32) : (dat2 W c).before 0 t2_0 d = W c (Proc.devRef .tc main_v1) := by
  unfold Dat.before; rw [if_pos (by decide)]
  funext i
  refine congrArg (W c (Proc.devRef .tc main_v1)) (funext fun a => Fin.ext ?_)
  show 0 * _ + 1 * (i a).val = (i a).val
  omega
theorem before2_1 (c : Dev nD) (d : S256x128.Idx → Elt F .f32) : (dat2 W c).before 1 t2_0 d = W c (Proc.devRef .tc main_v2) := by
  unfold Dat.before; rw [if_pos (by decide)]
  funext i
  refine congrArg (W c (Proc.devRef .tc main_v2)) (funext fun a => Fin.ext ?_)
  show 0 * _ + 1 * (i a).val = (i a).val
  omega
theorem before2_2 (c : Dev nD) (d : S512x128.Idx → Elt F .f32) : (dat2 W c).before 2 t2_0 d = W c (Proc.devRef .tc main_arg2) := by
  unfold Dat.before; rw [if_pos (by decide)]
  funext i
  refine congrArg (W c (Proc.devRef .tc main_arg2)) (funext fun a => Fin.ext ?_)
  show 0 * _ + 1 * (i a).val = (i a).val
  omega
theorem before2_3 (c : Dev nD) (d : S512x128.Idx → Elt F .f32) : (dat2 W c).before 3 t2_0 d = W c (Proc.devRef .tc main_arg3) := by
  unfold Dat.before; rw [if_pos (by decide)]
  funext i
  refine congrArg (W c (Proc.devRef .tc main_arg3)) (funext fun a => Fin.ext ?_)
  show 0 * _ + 1 * (i a).val = (i a).val
  omega
theorem before2_4 (c : Dev nD) (d : S1x512.Idx → Elt F .f32) : (dat2 W c).before 4 t2_0 d = W c (Proc.devRef .tc main_v3) := by
  unfold Dat.before; rw [if_pos (by decide)]
  funext i
  refine congrArg (W c (Proc.devRef .tc main_v3)) (funext fun a => Fin.ext ?_)
  show 0 * _ + 1 * (i a).val = (i a).val
  omega
theorem before2_5 (c : Dev nD) (d : S1x512.Idx → Elt F .f32) : (dat2 W c).before 5 t2_0 d = W c (Proc.devRef .tc main_v4) := by
  unfold Dat.before; rw [if_pos (by decide)]
  funext i
  refine congrArg (W c (Proc.devRef .tc main_v4)) (funext fun a => Fin.ext ?_)
  show 0 * _ + 1 * (i a).val = (i a).val
  omega

theorem obl2 (c : Dev nD) : BodyObligation (dat2 W c) (defs₀ (F := F)) 𝒱₀ (none : HIx 1) Set.univ := fun t => by
  obtain rfl := fin_N2 t
  rw [bigSep_W2, bigSep_W2]
  simp only [owns_whole_eq]
  rw [show (dat2 W c).Φ t2_0.castSucc = Pipeline.scopedRest spec2 c from rfl, show (dat2 W c).Φ t2_0.succ = Pipeline.scopedRest spec2 c from rfl,
    show (dat2 W c).owesAt none t2_0.succ = (dat2 W c).owesAt none t2_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
  rw [before2_0] at hf0
  rw [before2_1] at hf1
  rw [before2_2] at hf2
  rw [before2_3] at hf3
  rw [before2_4] at hf4
  rw [before2_5] at hf5
  subst hf0 hf1 hf2 hf3 hf4 hf5
  iapply (lstm_run c (stage2_0 0) (hstage2_0 0) (stage2_1 0) (hstage2_1 0) (stage2_2 0) (hstage2_2 0) (stage2_3 0) (hstage2_3 0)
    (stage2_4 0) (hstage2_4 0) (stage2_5 0) (hstage2_5 0) (stage2_6 0) (hstage2_6 0) _ _ _ _ _ _ f6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%g, %hg, H6⟩⟩
  isplitl [HΦ]; · iexact HΦ
  isplitl [Howes]; · iexact Howes
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  isplitl [H3]; · iexists _; isplitr; swap; (· iexact H3); ipureintro; dsimp only [dat2]
  isplitl [H4]; · iexists _; isplitr; swap; (· iexact H4); ipureintro; dsimp only [dat2]
  isplitl [H5]; · iexists _; isplitr; swap; (· iexact H5); ipureintro; dsimp only [dat2]
  iexists g; isplitr; swap; (· iexact H6); ipureintro; exact hg

/-- What the LSTM call leaves in its result. -/
theorem arr2 (c : Dev nD) : (dat2 W c).arrAt 6 cfg2.N = out2 W c := by
  have hb : ∀ i : S256x8x128.Idx, ((cfg2.win 6).blk t2_0).view.emb i = i := fun i => funext fun a => Fin.ext (by
    show 0 * _ + 1 * (i a).val = (i a).val; omega)
  refine Dat.arrAt_eq_of_cover (dat2 W c) 6 _ (fun t _ => ?_) fun i => ⟨t2_0, by decide, ?_⟩
  · obtain rfl := fin_N2 t
    funext i
    exact congrArg (out2 W c) (hb i).symm
  · exact Finset.mem_map.mpr ⟨i, Finset.mem_univ _, hb i⟩

end Cert.Proof.K

end
-- ==== Proof.Segs.lean ====
/-
  The region records of the two TensorCore calls, over the device's unscoped buffers held at a valuation: the
  selection entered at `W1`, the LSTM at `W2`.
-/
module

public import proofs.«01_k».proof.Proof.Regions
public import Idealize.ShloMosaic.Lib.Pipeline.RegionArraysS

@[expose] public section

noncomputable section

namespace Cert.Proof.K

open Cert.KernelIdeal Cert.KernelIdeal.Gen

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- The TensorCore's unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

variable (W1 W2 : (c : Dev nD) → Valuation τ sig (Elt F))

/-- The proof data of the run: each call's at the valuation it is entered at. -/
def pdats : (p : Fin 2) → (c : Dev nD) → Dat τ (Elt F) (HIx 1) ℕ UU ℕ (Pipeline.pin (pcfgs (F := F)) adm p) c
  | ⟨0, _⟩ => fun c => dat1 W1 c
  | ⟨1, _⟩ => fun c => dat2 W2 c

/-- Nothing is owed while a region runs: the cut at the bottom. -/
theorem cut (p : Fin 2) : Pipeline.LevelCut (pcfgs (F := F)) adm (none : HIx 1) (K (F := F)).L (K (F := F)).lev p (fun _ => 0) (fun _ : Dev nD => 0) where
  hι _ _ _ := by simp [SparseCore.Cfg.L]
  hιb _ _ _ := le_of_eq (SparseCore.Cfg.lev_none _ _)
  hD _ _ _ h := absurd h (Nat.lt_irrefl 0)

set_option backward.isDefEq.respectTransparency.types false in
/-- The selection's region. -/
def reg1 : Pipeline.RegionSeg (pcfgs (F := F)) adm (pdats W1 W2) (none : HIx 1) defs₀ 𝒱₀ (K (F := F)).L (K (F := F)).lev 0 :=
  Pipeline.RegionSeg.ofHeldIn (pcfgs (F := F)) adm (pdats W1 W2) (none : HIx 1) defs₀ 𝒱₀ (K (F := F)).L (K (F := F)).lev 0 (fun _ => 0) ucRefs
    (fun _ => BI.emp) (fun _ => BI.emp) launch1.toP rfl (fun c => (obl1 W1 c).loose) (fun _ _ => rfl) (fun _ => rfl)
    (fun c w => (pdats W1 W2 0 c).share_full (fun _ => rfl) w) (fun c => sep_elim_left) (fun c => BI.sep_emp.2) (fun _ => 0) (cut 0) (fun _ => BI.emp) W1 (fun _ _ => rfl)

theorem loose2 (c : Dev nD) : Pipeline.BodyObligationLoose (dat2 W2 c) (defs₀ (F := F)) 𝒱₀ (none : HIx 1) Set.univ := (obl2 W2 c).loose

theorem hin2 (c : Dev nD) : iprop(Pipeline.scopedRest spec2 c ∗ BI.emp) ⊢ ((dat2 W2 c).Φ 0 : sProp 𝕄) := by
  rw [show (dat2 W2 c).Φ 0 = Pipeline.scopedRest spec2 c from rfl]; exact sep_elim_left

theorem hout2 (c : Dev nD) : ((dat2 W2 c).Φ (Fin.last cfg2.N) : sProp 𝕄) ⊢ iprop(Pipeline.scopedRest spec2 c ∗ BI.emp) := by
  rw [show (dat2 W2 c).Φ (Fin.last cfg2.N) = Pipeline.scopedRest spec2 c from rfl]; exact BI.sep_emp.2

theorem hW2 (c : Dev nD) (w : Fin cfg2.W) : (dat2 W2 c).arrAt w 0 = W2 c (Proc.devRef .tc (Pipeline.arrRef spec2 w)) := rfl

set_option backward.isDefEq.respectTransparency.types false in
/-- The LSTM's region. -/
def reg2 : Pipeline.RegionSeg (pcfgs (F := F)) adm (pdats W1 W2) (none : HIx 1) defs₀ 𝒱₀ (K (F := F)).L (K (F := F)).lev 1 :=
  Pipeline.RegionSeg.ofHeldIn (pcfgs (F := F)) adm (pdats W1 W2) (none : HIx 1) defs₀ 𝒱₀ (K (F := F)).L (K (F := F)).lev 1 (fun _ => 0) ucRefs
    (fun _ => BI.emp) (fun _ => BI.emp) launch2.toP rfl (fun c => loose2 W2 c) (fun _ _ => rfl) (fun _ => rfl)
    (fun c w => (pdats W1 W2 1 c).share_full (fun _ => rfl) w) (hin2 W2) (hout2 W2) (fun _ => 0) (cut 1) (fun _ => BI.emp) W2 (hW2 W2)

section Ends

theorem sub1 : Pipeline.arrRefs (pcfgs (F := F) 0).spec ⊆ ucRefs := show Pipeline.arrRefs spec1 ⊆ ucRefs by decide
theorem sub2 : Pipeline.arrRefs (pcfgs (F := F) 1).spec ⊆ ucRefs := show Pipeline.arrRefs spec2 ⊆ ucRefs by decide

/-- What a region is entered from and left with, at a valuation of the held buffers. -/
abbrev ends (c : Dev nD) (V : Valuation τ sig (Elt F)) : sProp 𝕄 :=
  iprop(StableHlo.held (c.tc : Thread nD τ) ucRefs V ∗ ((∃ Wd, owes (c : Thread nD τ) (0 : CellTallies nD τ sig (HIx 1)) Wd) ∗ BI.emp ∗ BI.emp))

theorem reg1_pre (c : Dev nD) : ends c (W1 c) ⊢ (reg1 W1 W2).pre c := by
  unfold reg1; exact BI.Entails.trans (BI.Entails.refl _) (Pipeline.RegionSeg.ofHeldIn_pre sub1 (D := fun _ => 0) (X := fun _ => BI.emp) (R := fun _ => BI.emp) (W := W1) c)
theorem reg1_post (c : Dev nD) : (reg1 W1 W2).post c ⊢ ends c (Pipeline.afterRegion (pdats W1 W2 0 c) (W1 c)) := by
  unfold reg1; exact Pipeline.RegionSeg.ofHeldIn_post sub1 c
theorem reg2_pre (c : Dev nD) : ends c (W2 c) ⊢ (reg2 W1 W2).pre c := by
  unfold reg2; exact BI.Entails.trans (BI.Entails.refl _) (Pipeline.RegionSeg.ofHeldIn_pre sub2 (D := fun _ => 0) (X := fun _ => BI.emp) (R := fun _ => BI.emp) (W := W2) c)
theorem reg2_post (c : Dev nD) : (reg2 W1 W2).post c ⊢ ends c (Pipeline.afterRegion (pdats W1 W2 1 c) (W2 c)) := by
  unfold reg2; exact Pipeline.RegionSeg.ofHeldIn_post sub2 c

theorem after1 (c : Dev nD) : Pipeline.afterRegion (pdats W1 W2 0 c) (W1 c) = Pipeline.afterRegion (dat1 W1 c) (W1 c) := rfl
theorem after2 (c : Dev nD) : Pipeline.afterRegion (pdats W1 W2 1 c) (W2 c) = Pipeline.afterRegion (dat2 W2 c) (W2 c) := rfl

end Ends

end Cert.Proof.K

end
-- ==== Proof.Run.lean ====
/-
  The run of the whole kernel: the SparseCore call, the reshapes and the two TensorCore regions in @main's order, from
  the launch theorem's obligations to a run that ends with the arguments as they were, every semaphore at zero and the
  result at the value the two bodies compute.
-/
module

public import proofs.«01_k».proof.Proof.Gather
public import proofs.«01_k».proof.Proof.Segs

@[expose] public section

noncomputable section

namespace Cert.Proof.K

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Pipeline (Dat Cfg Window BodyObligation afterRegion)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The valuations between @main's steps -/

abbrev opA : HloOp τ sig (Elt F) := StableHlo.reshape main_v0 main_v1 (rfl : (.f32 : EltTy) = .f32) shapeCasts_S1024x128_S128x8x128
abbrev opB : HloOp τ sig (Elt F) := StableHlo.reshape main_arg4 main_v3 (rfl : (.f32 : EltTy) = .f32) shapeCasts_S512_S1x512
abbrev opC : HloOp τ sig (Elt F) := StableHlo.reshape main_arg5 main_v4 (rfl : (.f32 : EltTy) = .f32) shapeCasts_S512_S1x512

abbrev x' : DevRef τ sig := Proc.devRef .tc (main_arg1 : Ref sig .tc)
abbrev o' : DevRef τ sig := Proc.devRef .tc (main_v0 : Ref sig .tc)

/-- At launch; after the SparseCore call; after the reshape of its result. -/
def V0 (d : Dev nD) : Valuation τ sig (Elt F) := fun b => m (d, b)
def V1 (d : Dev nD) : Valuation τ sig (Elt F) := Function.update (V0 m d) o' (oVal m d)
def V2 (d : Dev nD) : Valuation τ sig (Elt F) := (opA (F := F)).result (V1 m d)
/-- After the selection; after the two reshapes of the biases; after the LSTM. -/
def V3 (d : Dev nD) : Valuation τ sig (Elt F) := afterRegion (dat1 (V2 m) d) (V2 m d)
def V4 (d : Dev nD) : Valuation τ sig (Elt F) := (opB (F := F)).result (V3 m d)
def V5 (d : Dev nD) : Valuation τ sig (Elt F) := (opC (F := F)).result (V4 m d)
def V6 (d : Dev nD) : Valuation τ sig (Elt F) := afterRegion (dat2 (V5 m) d) (V5 m d)

/-! ## The regions as steps of @main -/

abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

/-- A region of the pipelines' table, as the whole program's table runs it. -/
theorem lift_entry (p : Fin 2) (d : Dev nD) (Q : PUnit → sProp 𝕄) :
    wp frame (wpE (D (F := F)) 𝒱 (T d) none) Set.univ (.op (.customCall (Pipeline.entry p) ()) (fun _ => .ret ⟨⟩) : Prog (TpuEff nD τ sig (Elt F) (ΛP (F := F)) .tc) PUnit) Q
      ⊢ wp frame (wpE ((K (F := F)).defs (D (F := F))) 𝒱 (T d) none) Set.univ
          (Prog.lift (.customCall (SparseCore.inner (Pipeline.entry p)) ())) Q :=
  (K (F := F)).wp_liftProg (D (F := F)) 𝒱 (T d) Set.univ none (.op (.customCall (Pipeline.entry p) ()) (fun _ => .ret ⟨⟩) : Prog (TpuEff nD τ sig (Elt F) (ΛP (F := F)) .tc) PUnit) Q

/-- What rides between @main's steps: the held buffers at a valuation and the empty tally. -/
abbrev stp (d : Dev nD) (V : Valuation τ sig (Elt F)) : sProp 𝕄 :=
  iprop(boundary (T d) ∗ held (T d) ucRefs V ∗ ∃ W, owes (T d) (0 : CellTallies nD τ sig (HIx 1)) W)

theorem call1 [∀ e, Nonempty (Elt F e)] (d : Dev nD) (Q : PUnit → sProp 𝕄) :
    iprop(stp d (V2 m d) ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (stp d (V3 m d) -∗ Q ⟨⟩))
      ⊢ wp frame (wpE ((K (F := F)).defs (D (F := F))) 𝒱 (T d) none) Set.univ
          (Prog.lift (.customCall (SparseCore.inner (Pipeline.entry 0)) ())) Q := by
  have hreg := Pipeline.RegionSeg.wp (pcfgs (F := F)) adm (pdats (V2 m) (V5 m)) (none : HIx 1) cellOf_inj EP defs₀ 𝒱₀ (K (F := F)).L (K (F := F)).lev
    (reg1 (V2 m) (V5 m)) d none (fun _ h => nomatch h) (fun _ => .ret ⟨⟩) Q
  refine BI.Entails.trans ?_ (lift_entry 0 d Q)
  refine BI.Entails.trans ?_ hreg
  have hpre := reg1_pre (V2 m) (V5 m) d
  have hpost := reg1_post (V2 m) (V5 m) d
  rw [after1] at hpost
  change (_ : sProp 𝕄) ⊢ _
  iintro ⟨⟨Hb, Hh, HO⟩, #Hl, Hg, Ht, Hk⟩
  isplitl [Hk]
  · iintro ⟨Hb, Hp⟩
    ihave H := hpost $$ Hp
    icases H with ⟨Hh, HO, -⟩
    rw [wp_ret]; imodintro
    iapply Hk
    isplitl [Hb]; · iexact Hb
    isplitl [Hh]; · iexact Hh
    iexact HO
  isplitl [Hb]; · iexact Hb
  isplitl [Hh HO]
  · iapply hpre
    isplitl [Hh]; · iexact Hh
    isplitl [HO]; · iexact HO
    isplitr <;> iempintro
  isplitr; · iexact Hl
  isplitl [Hg]; · iexact Hg
  iexact Ht

theorem call2 [∀ e, Nonempty (Elt F e)] (d : Dev nD) (Q : PUnit → sProp 𝕄) :
    iprop(stp d (V5 m d) ∗ levAts (K (F := F)).L (K (F := F)).lev
        ∗ Pipeline.cellsGhost (Pipeline.pin (pcfgs (F := F)) adm) EP 1 d ∗ Pipeline.toksInit (Pipeline.pin (pcfgs (F := F)) adm) EP 1 d
        ∗ (stp d (V6 m d) -∗ Q ⟨⟩))
      ⊢ wp frame (wpE ((K (F := F)).defs (D (F := F))) 𝒱 (T d) none) Set.univ
          (Prog.lift (.customCall (SparseCore.inner (Pipeline.entry 1)) ())) Q := by
  have hreg := Pipeline.RegionSeg.wp (pcfgs (F := F)) adm (pdats (V2 m) (V5 m)) (none : HIx 1) cellOf_inj EP defs₀ 𝒱₀ (K (F := F)).L (K (F := F)).lev
    (reg2 (V2 m) (V5 m)) d none (fun _ h => nomatch h) (fun _ => .ret ⟨⟩) Q
  refine BI.Entails.trans ?_ (lift_entry 1 d Q)
  refine BI.Entails.trans ?_ hreg
  have hpre := reg2_pre (V2 m) (V5 m) d
  have hpost := reg2_post (V2 m) (V5 m) d
  rw [after2] at hpost
  change (_ : sProp 𝕄) ⊢ _
  iintro ⟨⟨Hb, Hh, HO⟩, #Hl, Hg, Ht, Hk⟩
  isplitl [Hk]
  · iintro ⟨Hb, Hp⟩
    ihave H := hpost $$ Hp
    icases H with ⟨Hh, HO, -⟩
    rw [wp_ret]; imodintro
    iapply Hk
    isplitl [Hb]; · iexact Hb
    isplitl [Hh]; · iexact Hh
    iexact HO
  isplitl [Hb]; · iexact Hb
  isplitl [Hh HO]
  · iapply hpre
    isplitl [Hh]; · iexact Hh
    isplitl [HO]; · iexact HO
    isplitr <;> iempintro
  isplitr; · iexact Hl
  isplitl [Hg]; · iexact Hg
  iexact Ht

/-! ## The launch element -/

/-- The element launched with: the handshakes' rounds, the pipelines' cells, and nothing of the counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  have hx : (bigSep Finset.univ fun thr : Thread nD τ => bigSep Finset.univ fun q : Fin 1 => (P (F := F) m).x q thr) = (iprop(emp) : sProp 𝕄) := by
    rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), bigSep_emp']
  rw [hx, bigSep_sep']
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)))) $$ Hu
  icases H with ⟨HH, HR⟩
  ihave HR := (own_pair_emb embR (initOf (Pipeline.cells (Pipeline.pin (pcfgs (F := F)) adm) cellOf_inj) (Pipeline.launchToks (Pipeline.pin (pcfgs (F := F)) adm) cellOf_inj)) (1 : Counters)) $$ HR
  icases HR with ⟨HP, -⟩
  ihave HP := (Entails.of_eq (show (BI.own ((Emb.trans (Emb.inl : Emb UP (UP × Counters)) (embR (A := UH) (B := UP × Counters)))
      (initOf (Pipeline.cells (Pipeline.pin (pcfgs (F := F)) adm) cellOf_inj) (Pipeline.launchToks (Pipeline.pin (pcfgs (F := F)) adm) cellOf_inj))) : sProp 𝕄)
    = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) EP cellOf_inj) $$ HP with ⟨Hg, Ht⟩
  imodintro
  isplitl [HH]; · iexact HH
  isplitl [Hg Ht]
  · isplitl [Hg]; · iexact Hg
    iexact Ht
  iempintro

/-! ## @main on the TensorCore -/

omit [FloatOps F] in
/-- The table and the call's result out of the held buffers. -/
theorem held_split (d : Dev nD) (V : Valuation τ sig (Elt F)) :
    (held (T d) ucRefs V : sProp 𝕄) = iprop(((xLoc d ↦{fullShare} V x') ∗ (oLoc d ↦{fullShare} V o')) ∗ held (T d) (ucRefs \ {x', o'}) V) := by
  rw [StableHlo.held_sub_split (T d) (show ({x', o'} : Finset (DevRef τ sig)) ⊆ ucRefs by decide) V]
  congr 1
  unfold held
  rw [SparseCore.bigSep_insert' (by decide), bigSep_singleton]

theorem V1_rest (d : Dev nD) : (held (T d) (ucRefs \ {x', o'}) (V1 m d) : sProp 𝕄) = held (T d) (ucRefs \ {x', o'}) (V0 m d) :=
  StableHlo.held_congr (T d) fun b hb => Function.update_of_ne (fun h => by
    have := (Finset.mem_sdiff.mp hb).2; exact this (h ▸ Finset.mem_insert_of_mem (Finset.mem_singleton_self _))) _ _
theorem V1_x (d : Dev nD) : V1 m d x' = m (xLoc d) := Function.update_of_ne (show x' ≠ o' by decide) _ _
theorem V1_o (d : Dev nD) : V1 m d o' = oVal m d := Function.update_self _ _ _

theorem st0_eq (d : Dev nD) : (bigSep Finset.univ fun c : Fin ((K (F := F)).nCore 0) => (P m).st 0 d c) = iprop(xPts m d ∗ ∃ f, oPts d f) :=
  bigSep_univ_of_subsingleton (0 : Fin 1)
theorem dn0_eq (d : Dev nD) : (bigSep Finset.univ fun c : Fin ((K (F := F)).nCore 0) => (P m).dn 0 d c) = iprop(xPts m d ∗ oPts d (oVal m d)) :=
  bigSep_univ_of_subsingleton (0 : Fin 1)

theorem hA : (opA (F := F)).bufs ⊆ ucRefs := show ({Proc.devRef .tc main_v0, Proc.devRef .tc main_v1} : Finset (DevRef τ sig)) ⊆ ucRefs by decide
theorem hB : (opB (F := F)).bufs ⊆ ucRefs := show ({Proc.devRef .tc main_arg4, Proc.devRef .tc main_v3} : Finset (DevRef τ sig)) ⊆ ucRefs by decide
theorem hC : (opC (F := F)).bufs ⊆ ucRefs := show ({Proc.devRef .tc main_arg5, Proc.devRef .tc main_v4} : Finset (DevRef τ sig)) ⊆ ucRefs by decide

/-- What @main leaves the claim: every unscoped buffer at its last valuation. -/
abbrev FIN (d : Dev nD) : sProp 𝕄 := held (T d) ucRefs (V6 m d)

omit [FloatOps F] in
/-- The two pipelines' cells, one by one. -/
theorem G_split (d : Dev nD) : G (F := F) d ⊢ iprop(
    (Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d)) := by
  unfold G
  rw [show (Finset.univ : Finset (Fin 2)) = {0, 1} by decide, SparseCore.bigSep_insert' (by decide), bigSep_singleton,
    SparseCore.bigSep_insert' (by decide), bigSep_singleton]
  iintro ⟨⟨H0, H1⟩, H2, H3⟩
  isplitl [H0 H2]
  · isplitl [H0]; · iexact H0
    iexact H2
  isplitl [H1]; · iexact H1
  iexact H3

/-- Every pair a TensorCore may have recorded lies below the end of the one call's block. -/
theorem below (d : Dev nD) (W : Waits sig (HIx 1)) : (K (F := F)).WBelow (T d) W (8 * SparseCore.Cfg.Blocks.fst (Q := 1) (N := 1) 1) := by
  intro p _
  rcases p with ⟨p, _ | q⟩
  · exact Nat.zero_le _
  · refine ((K (F := F)).lev_some_le _ q).trans ?_
    have : q.val = 0 := by omega
    rw [this]; decide

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (V0 m d) from unscopedBufs_held d (V0 m d)]
  simp only [main, wp_bind, wp_pure]
  have hlev := (SparseCore.Cfg.ctx_levAts (K := K (F := F)) (EH := EH) (P := P m) κ : (K (F := F)).ctx EH (P m) κ ⊢ levAts (K (F := F)).L (K (F := F)).lev)
  iintro ⟨#Hctx, Hst, ⟨Hb, Hheld, Hts, -⟩, HG⟩
  ihave #Hl := hlev $$ Hctx
  ihave HG := (G_split (F := F) d) $$ HG
  icases HG with ⟨⟨Hg0, Ht0⟩, Hg1, Ht1⟩
  ihave Hh := (Entails.of_eq (held_split (F := F) d _)) $$ Hheld
  icases Hh with ⟨⟨Hx, Ho⟩, Hr⟩
  iapply ((K (F := F)).wp_run (D (F := F)) 𝒱 (EH := EH) (P := P m) κ d 0) $$ [-]
  isplitr; · iexact Hctx
  isplitl [Hst]; · iexact Hst
  isplitl [Hx Ho]
  · rw [st0_eq]
    isplitl [Hx]; · iexact Hx
    iexists _; iexact Ho
  iintro ⟨Hst, Hdn⟩
  ihave Hdn' := (Entails.of_eq (dn0_eq m d)) $$ Hdn
  icases Hdn' with ⟨Hx, Ho⟩
  -- the reshape of the gathered rows
  iapply (wp_hlo_within 𝒱 (SparseCore.T d) none Set.univ (op := opA) (S := ucRefs) hA (V := V1 m d)) $$ [Hb Hx Ho Hr]
  · isplitl [Hb]; · iexact Hb
    rw [held_split, V1_x, V1_o, V1_rest]
    isplitl [Hx Ho]
    · isplitl [Hx]; · iexact Hx
      iexact Ho
    iexact Hr
  iintro ⟨Hb, Hh⟩
  rw [wp_ret]; imodintro
  -- the selection
  unfold SparseCore.Cfg.tcSt
  icases Hst with ⟨⟨%W, %hW, HO⟩, Hst⟩
  rw [show (K (F := F)).Otc d ((0 : Fin 1).val + 1) = (0 : CellTallies nD τ sig (HIx 1)) from SparseCore.Cfg.Otc_end _ d (le_refl 1)]
  iapply (call1 m d _) $$ [-]
  isplitl [Hb Hh HO]
  · isplitl [Hb]; · iexact Hb
    isplitl [Hh]; · iexact Hh
    iexists _; iexact HO
  isplitr; · iexact Hl
  isplitl [Hg0]; · iexact Hg0
  isplitl [Ht0]; · iexact Ht0
  iintro ⟨Hb, Hh, HO⟩
  iapply (wp_hlo_within 𝒱 (SparseCore.T d) none Set.univ (op := opB) (S := ucRefs) hB (V := V3 m d)) $$ [Hb Hh]
  · isplitl [Hb]; · iexact Hb
    iexact Hh
  iintro ⟨Hb, Hh⟩
  rw [wp_ret]; imodintro
  iapply (wp_hlo_within 𝒱 (SparseCore.T d) none Set.univ (op := opC) (S := ucRefs) hC (V := V4 m d)) $$ [Hb Hh]
  · isplitl [Hb]; · iexact Hb
    iexact Hh
  iintro ⟨Hb, Hh⟩
  rw [wp_ret]; imodintro
  iapply (call2 m d _) $$ [-]
  isplitl [Hb Hh HO]
  · isplitl [Hb]; · iexact Hb
    isplitl [Hh]; · iexact Hh
    iexact HO
  isplitr; · iexact Hl
  isplitl [Hg1]; · iexact Hg1
  isplitl [Ht1]; · iexact Ht1
  iintro ⟨Hb, Hh, ⟨%W', HO⟩⟩
  imodintro
  isplitl [HO Hst]
  · isplitl [HO]
    · iexists W'; isplitr
      · ipureintro; exact below d W'
      rw [show (K (F := F)).Otc d 1 = (0 : CellTallies nD τ sig (HIx 1)) from SparseCore.Cfg.Otc_end _ d (le_refl 1)]
      iexact HO
    iexact Hst
  isplitl [Hh]; · iexact Hh
  isplitl [Hb]; · iexact Hb
  iexact Hts

/-! ## What the last valuation holds -/

/-- The result as a function of the arguments. -/
def outVal (d : Dev nD) : S256x8x128.Idx → Elt F .f32 :=
  tcOut (shapeCast S128x8x128 (gathered (m ((SparseCore.T d).loc main_arg1)) : S1024x128.Idx → Elt F .f32) shapeCasts_S1024x128_S128x8x128)
    (k1_pay1 (m ((SparseCore.T d).loc main_arg0) : S256x128.Idx → Elt F .f32)) (m ((SparseCore.T d).loc main_arg2)) (m ((SparseCore.T d).loc main_arg3))
    (shapeCast S1x512 (m ((SparseCore.T d).loc main_arg4) : S512.Idx → Elt F .f32) shapeCasts_S512_S1x512)
    (shapeCast S1x512 (m ((SparseCore.T d).loc main_arg5) : S512.Idx → Elt F .f32) shapeCasts_S512_S1x512)

abbrev dr (b : Ref sig .tc) : DevRef τ sig := Proc.devRef .tc b

/-- A buffer no step writes is at its launch contents. -/
theorem V2_keeps (d : Dev nD) (r : Ref sig .tc) (h0 : r ≠ main_v0) (h1 : r ≠ main_v1) : V2 m d (dr r) = m ((SparseCore.T d).loc r) := by
  unfold V2; rw [StableHlo.reshape_result_ne (h := h1)]
  exact Function.update_of_ne (fun h => h0 (Proc.devRef_injective _ h)) _ _
theorem V3_keeps (d : Dev nD) (r : Ref sig .tc) (h : r ≠ main_v2) : V3 m d (dr r) = V2 m d (dr r) :=
  Pipeline.afterRegion_keeps (dat1 (V2 m) d) (V2 m d) winFacts1.arr_inj (fun _ => rfl) r (fun w hw => by
    fin_cases w
    · rfl
    · exact absurd hw.symm h)
theorem V5_keeps (d : Dev nD) (r : Ref sig .tc) (h3 : r ≠ main_v3) (h4 : r ≠ main_v4) : V5 m d (dr r) = V3 m d (dr r) := by
  unfold V5; rw [StableHlo.reshape_result_ne (h := h4)]
  unfold V4; rw [StableHlo.reshape_result_ne (h := h3)]
theorem V6_keeps (d : Dev nD) (r : Ref sig .tc) (h : r ≠ main_v5) : V6 m d (dr r) = V5 m d (dr r) :=
  Pipeline.afterRegion_keeps (dat2 (V5 m) d) (V5 m d) winFacts2.arr_inj (fun _ => rfl) r (fun w hw => by
    fin_cases w
    · rfl
    · rfl
    · rfl
    · rfl
    · rfl
    · rfl
    · exact absurd hw.symm h)

theorem V6_arg (d : Dev nD) (r : Ref sig .tc) (h : r ≠ main_v0 ∧ r ≠ main_v1 ∧ r ≠ main_v2 ∧ r ≠ main_v3 ∧ r ≠ main_v4 ∧ r ≠ main_v5) :
    V6 m d (dr r) = m ((SparseCore.T d).loc r) := by
  rw [V6_keeps m d r h.2.2.2.2.2, V5_keeps m d r h.2.2.2.1 h.2.2.2.2.1, V3_keeps m d r h.2.2.1, V2_keeps m d r h.1 h.2.1]

theorem V6_out (d : Dev nD) : V6 m d (dr main_v5) = outVal m d := by
  refine (Pipeline.afterRegion_arr (dat2 (V5 m) d) (V5 m d) winFacts2.arr_inj 6).trans ((arr2 (V5 m) d).trans ?_)
  unfold out2 outVal
  have e1 : V5 m d (dr main_v1) = shapeCast S128x8x128 (gathered (m ((SparseCore.T d).loc main_arg1)) : S1024x128.Idx → Elt F .f32) shapeCasts_S1024x128_S128x8x128 := by
    rw [V5_keeps m d main_v1 (by decide) (by decide), V3_keeps m d main_v1 (by decide)]
    unfold V2; rw [StableHlo.reshape_result']
    rw [V1_o]; rfl
  have e2 : V5 m d (dr main_v2) = (k1_pay1 (m ((SparseCore.T d).loc main_arg0) : S256x128.Idx → Elt F .f32) : S256x128.Idx → Elt F .f32) := by
    rw [V5_keeps m d main_v2 (by decide) (by decide)]
    refine (Pipeline.afterRegion_arr (dat1 (V2 m) d) (V2 m d) winFacts1.arr_inj 1).trans ((arr1 (V2 m) d).trans ?_)
    rw [V2_keeps m d main_arg0 (by decide) (by decide)]
  have e3 : V5 m d (dr main_arg2) = m ((SparseCore.T d).loc main_arg2) := by
    rw [V5_keeps m d _ (by decide) (by decide), V3_keeps m d _ (by decide), V2_keeps m d _ (by decide) (by decide)]
  have e4 : V5 m d (dr main_arg3) = m ((SparseCore.T d).loc main_arg3) := by
    rw [V5_keeps m d _ (by decide) (by decide), V3_keeps m d _ (by decide), V2_keeps m d _ (by decide) (by decide)]
  have e5 : V5 m d (dr main_v3) = shapeCast S1x512 (m ((SparseCore.T d).loc main_arg4) : S512.Idx → Elt F .f32) shapeCasts_S512_S1x512 := by
    unfold V5; rw [StableHlo.reshape_result_ne (h := (show main_v3 ≠ main_v4 by decide))]
    unfold V4; rw [StableHlo.reshape_result', V3_keeps m d _ (by decide), V2_keeps m d _ (by decide) (by decide)]; rfl
  have e6 : V5 m d (dr main_v4) = shapeCast S1x512 (m ((SparseCore.T d).loc main_arg5) : S512.Idx → Elt F .f32) shapeCasts_S512_S1x512 := by
    unfold V5; rw [StableHlo.reshape_result']
    unfold V4; rw [StableHlo.reshape_result_ne (h := (show main_arg5 ≠ main_v3 by decide)), V3_keeps m d _ (by decide), V2_keeps m d _ (by decide) (by decide)]; rfl
  rw [e1, e2, e3, e4, e5, e6]

/-! ## The run -/

/-- What the run ends with, per device. -/
def fq (d : Dev nD) (s' : Phys nD τ sig (Elt F)) : Prop := ∀ r : Ref sig .tc, dr r ∈ ucRefs → s'.mem.mem ((SparseCore.T d).loc r) = V6 m d (dr r)

theorem hfin (d : Dev nD) (s' : Phys nD τ sig (Elt F)) : iprop(FIN m d ∗ SI s') ⊢ (⌜fq m d s'⌝ : sProp 𝕄) := by
  have key : ∀ r : Ref sig .tc, dr r ∈ ucRefs → iprop(FIN m d ∗ SI s') ⊢ (⌜s'.mem.mem ((SparseCore.T d).loc r) = V6 m d (dr r)⌝ : sProp 𝕄) := fun r hr => by
    have he : FIN m d ⊢ ((SparseCore.T d).loc r ↦{fullShare} V6 m d (dr r) : sProp 𝕄) := by
      unfold FIN held; exact bigSep_elim (Φ := fun b => ((d, b) ↦{fullShare} V6 m d b : sProp 𝕄)) hr
    iintro ⟨Hh, HSI⟩
    ihave Hx := he $$ Hh
    ihave H := (SI_pointsTo_agree (st := s') (ℓ := (SparseCore.T d).loc r) (I := Finset.univ) (q := fullShare) (f := V6 m d (dr r))) $$ [HSI Hx]
    · isplitl [HSI] <;> iassumption
    icases H with %hx
    ipureintro; exact funext fun i => hx i (Finset.mem_univ i)
  unfold fq
  exact fun a x r hr => key r hr a x

def QC : PUnit × MemSt nD τ sig (Elt F) → Prop := fun r => (∀ d : Dev nD,
    r.2.mem ((SparseCore.T d).loc main_v5) = outVal m d
    ∧ r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem ((SparseCore.T d).loc main_arg4) = m ((SparseCore.T d).loc main_arg4) ∧ r.2.mem ((SparseCore.T d).loc main_arg5) = m ((SparseCore.T d).loc main_arg5)
    ∧ r.2.mem ((SparseCore.T d).loc main_arg6) = m ((SparseCore.T d).loc main_arg6)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun d => G d) (FIN m) (u₀ (F := F)) (sep_elim_left.trans (hu₀ m)) (hmain m ρ) (fq m) (hfin m) (QC m)
    (fun _ h hz => ⟨fun d => ⟨(h d main_v5 (by decide)).trans (V6_out m d),
      (h d main_arg0 (by decide)).trans (V6_arg m d _ (by decide)), (h d main_arg1 (by decide)).trans (V6_arg m d _ (by decide)),
      (h d main_arg2 (by decide)).trans (V6_arg m d _ (by decide)), (h d main_arg3 (by decide)).trans (V6_arg m d _ (by decide)),
      (h d main_arg4 (by decide)).trans (V6_arg m d _ (by decide)), (h d main_arg5 (by decide)).trans (V6_arg m d _ (by decide)),
      (h d main_arg6 (by decide)).trans (V6_arg m d _ (by decide))⟩, hz⟩)

end Cert.Proof.K

end
-- ==== Proof.Frames.lean ====
/-
  The frames: each program terminates, nothing faults, its arguments end as they were, every semaphore reads zero. The
  kernel's two come from the one run, at the bits and at the ideal instance; the reference runs host operations only.
-/
module

public import proofs.«01_k».proof.Defs
public import proofs.«01_k».proof.Proof.Run
public import proofs.«01_k».proof.Proof.Gen.Kernel
public import proofs.«01_k».proof.Proof.Gen.ReferenceIdeal.Run
public import Idealize.ShloMosaic.Init

@[expose] public section

noncomputable section

namespace Cert.Proof

open Idealize.ShloMosaic Idealize.SL.Sem

/-- The kernels' body table as printed is the one printed for the ideal instance, label by label on each processor. -/
theorem table_kernels : Cert.Kernel.defs₀ (F := Bits) = Cert.KernelIdeal.defs₀ (F := Bits) := by
  funext q l a
  match q, l, a with
  | .tc, 0, _ => rfl
  | .tc, 1, _ => rfl
  | .tc, 2, _ => rfl
  | .scScalar _, 0, _ => rfl
  | .scScalar _, 1, _ => rfl
  | .scScalar _, 2, _ => rfl
  | .scVector _ _, 0, _ => rfl
  | .scVector _ _, 1, _ => rfl
  | .scVector _ _, 2, _ => rfl

theorem table : Cert.Kernel.defs (F := Bits) = Cert.KernelIdeal.defs (F := Bits) := by
  show Cert.Kernel.sc.defs (Pipeline.defs Cert.Kernel.pcfgs Cert.Kernel.defs₀)
    = Cert.KernelIdeal.sc.defs (Pipeline.defs Cert.KernelIdeal.pcfgs Cert.KernelIdeal.defs₀)
  rw [table_kernels]; rfl

theorem frame_kernel : Cert.quiescent_Kernel (hKernel := Cert.Kernel.Gen.facts) := fun m ρ _ => by
  rw [table]
  exact (θ_run (Cert.KernelIdeal.defs (F := Bits)) _ _).mono (fun _ h => ⟨fun c => (h.1 c).2, h.2⟩) (K.run_main (F := Bits) m ρ)

theorem frame_ideal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (K.run_main (F := Ideal) m ρ)

theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

end Cert.Proof

end
-- ==== Proof.Logistic.lean ====
/-
  Extended-real arithmetic of a cell: the half that the kernel multiplies by, and its hyperbolic form of the logistic
  function, which is the reference's quotient at every extended real.
-/
module

public import Idealize.ShloMosaic.PureOps.Ideal.Laws
public import Idealize.ShloMosaic.Lib.IdealHost
public import Mathlib.Analysis.Complex.Trigonometric

@[expose] public section

namespace Cert.Proof.K

open Idealize.ShloMosaic

/-- The pattern of one half. -/
theorem ofBits_half : Ideal.ofBits .f32 0x3F000000#32 = (((1 : ℝ) / 2 : ℝ) : EReal) := by
  simp [Ideal.ofBits, Ideal.ieee, -EReal.coe_mul]; norm_num

/-- On the reals: half of one plus the tangent of the half argument. -/
theorem real_logistic (x : ℝ) : 1 / 2 + 1 / 2 * Real.tanh (1 / 2 * x) = (1 + Real.exp (-x))⁻¹ := by
  have hx : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  rw [Real.tanh_eq_sinh_div_cosh, Real.sinh_eq, Real.cosh_eq, hx]
  have p := Real.exp_pos (1 / 2 * x)
  have q := Real.exp_pos (-(1 / 2 * x))
  generalize Real.exp (1 / 2 * x) = a at *
  generalize Real.exp (-(1 / 2 * x)) = b at *
  have h2 : a + b ≠ 0 := by positivity
  have h3 : 1 + b * b ≠ 0 := by positivity
  field_simp
  linear_combination (2 * b) * h1

/-- The hyperbolic form is the quotient. -/
theorem logistic_eq (x : EReal) :
    (((1 : ℝ) / 2 : ℝ) : EReal) + (((1 : ℝ) / 2 : ℝ) : EReal) * Ideal.tanh ((((1 : ℝ) / 2 : ℝ) : EReal) * x) = Ideal.div 1 (1 + Ideal.exp (-x)) := by
  have hp : (0 : ℝ) < 1 / 2 := by norm_num
  induction x with
  | bot =>
    rw [EReal.coe_mul_bot_of_pos hp, Ideal.tanh_bot, EReal.neg_bot, Ideal.exp_top]
    have e : (1 : EReal) + ⊤ = ⊤ := by rw [← EReal.coe_one]; exact EReal.coe_add_top 1
    rw [e, Ideal.div, if_neg (by simp), EReal.inv_top, mul_zero, ← EReal.coe_one, ← EReal.coe_neg, ← EReal.coe_mul, ← EReal.coe_add,
      ← EReal.coe_zero]
    congr 1; norm_num
  | top =>
    rw [EReal.coe_mul_top_of_pos hp, Ideal.tanh_top, EReal.neg_top, Ideal.exp_bot, add_zero, Ideal.div, if_neg (by simp), ← EReal.coe_one,
      ← EReal.coe_inv, ← EReal.coe_mul, ← EReal.coe_mul, ← EReal.coe_add]
    congr 1; norm_num
  | coe r =>
    have h : 1 + Real.exp (-r) ≠ 0 := by positivity
    rw [← EReal.coe_mul, Ideal.tanh_coe, ← EReal.coe_neg, Ideal.exp_coe, ← EReal.coe_one, ← EReal.coe_add, Ideal.div,
      if_neg (by rw [← EReal.coe_zero]; exact fun e => h (EReal.coe_injective e)), ← EReal.coe_inv, ← EReal.coe_mul, ← EReal.coe_mul,
      ← EReal.coe_add]
    congr 1
    rw [one_mul]; exact real_logistic r

end Cert.Proof.K
-- ==== Proof.Step.lean ====
/-
  One step of the recurrence, the reference's spelling against the kernel's, at the ideal instance: the four sums of a gate
  in another order, the logistic function as a quotient. Then the eight steps.
-/
module

public import proofs.«01_k».proof.Proof.Cell
public import proofs.«01_k».proof.Proof.Logistic
public import proofs.«01_k».proof.Proof.Gen.ReferenceIdeal
public import Idealize.ShloMosaic.Lib.MatmulPlain
public import Idealize.ShloMosaic.Lib.StackMember

@[expose] public section

noncomputable section

namespace Cert.Proof.K

open Cert.KernelIdeal Cert.KernelIdeal.Gen
open Idealize.ShloMosaic Idealize.ShloMosaic.ValueIdx

/-- The logistic function as the reference prints it. -/
def rsig (x : FVec Ideal S128x128 .f32) : FVec Ideal S128x128 .f32 :=
  Host.divf (broadcastInDim S128x128 ![] Cert.ReferenceIdeal.Gen.bcast_S_S128x128 (constant S_ .f32 0x3F800000#32))
    (addf (broadcastInDim S128x128 ![] Cert.ReferenceIdeal.Gen.bcast_S_S128x128 (constant S_ .f32 0x3F800000#32)) (Host.exp (Host.negf x)))

theorem rsig_eq (x : FVec Ideal S128x128 .f32) : rsig x = sg x := by
  funext j
  show Ideal.div (broadcastInDim S128x128 ![] Cert.ReferenceIdeal.Gen.bcast_S_S128x128 (constant (F := Ideal) S_ .f32 0x3F800000#32) j)
      (broadcastInDim S128x128 ![] Cert.ReferenceIdeal.Gen.bcast_S_S128x128 (constant (F := Ideal) S_ .f32 0x3F800000#32) j + Ideal.exp (-(x j)))
    = Ideal.ofBits .f32 0x3F000000#32 + Ideal.ofBits .f32 0x3F000000#32 * Ideal.tanh (Ideal.ofBits .f32 0x3F000000#32 * x j)
  rw [broadcastInDim_scalar_apply, ofBits_half, logistic_eq]
  show Ideal.div (Ideal.ofBits .f32 0x3F800000#32) (Ideal.ofBits .f32 0x3F800000#32 + _) = _
  rw [Ideal.ofBits_one_f32]

/-- The zero state as the reference prints it. -/
def rzero : FVec Ideal S128x128 .f32 := broadcastInDim S128x128 ![] Cert.ReferenceIdeal.Gen.bcast_S_S128x128 (constant S_ .f32 0x00000000#32)

theorem rzero_eq : rzero = zst := by
  funext j
  exact broadcastInDim_scalar_apply _ _ _

/-- The gates as the reference prints them. -/
def rgates (wi wh : FVec Ideal S512x128 .f32) (bi bh : FVec Ideal S512 .f32) (h : FVec Ideal S128x128 .f32) (x : FVec Ideal S128x1x128 .f32) :
    FVec Ideal S128x512 .f32 :=
  addf (addf (addf (Host.dotGeneral Cert.ReferenceIdeal.dot_S128x128_S128x512_S128x512_1_0_0_1_n_n none (shapeCast S128x128 x shapeCasts_S128x1x128_S128x128)
          (transpose S128x512 [1, 0] wi Cert.ReferenceIdeal.Gen.transposes_S512x128_S128x512_1_0))
        (broadcastInDim S128x512 ![0, 1] Cert.ReferenceIdeal.Gen.bcast_S1x512_S128x512_0_1 (broadcastInDim S1x512 ![1] Cert.ReferenceIdeal.Gen.bcast_S512_S1x512_1 bi)))
      (Host.dotGeneral Cert.ReferenceIdeal.dot_S128x128_S128x512_S128x512_1_0_0_1_n_n none h
          (transpose S128x512 [1, 0] wh Cert.ReferenceIdeal.Gen.transposes_S512x128_S128x512_1_0)))
    (broadcastInDim S128x512 ![0, 1] Cert.ReferenceIdeal.Gen.bcast_S1x512_S128x512_0_1 (broadcastInDim S1x512 ![1] Cert.ReferenceIdeal.Gen.bcast_S512_S1x512_1 bh))

theorem dot_ref (x : FVec Ideal S128x128 .f32) (w : FVec Ideal S512x128 .f32) (r : Fin 128) (c : Fin 512) :
    Host.dotGeneral Cert.ReferenceIdeal.dot_S128x128_S128x512_S128x512_1_0_0_1_n_n none x
        (transpose S128x512 [1, 0] w Cert.ReferenceIdeal.Gen.transposes_S512x128_S128x512_1_0) (ix2 r c)
      = ∑ k : Fin 128, x (ix2 r k) * w (ix2 c k) := by
  refine (Idealize.ShloMosaic.StackMember.dotGeneral_plain_apply (m := 128) (k := 128) (n := 512) none x
    (transpose S128x512 [1, 0] w Cert.ReferenceIdeal.Gen.transposes_S512x128_S128x512_1_0) r c).trans (Finset.sum_congr rfl fun k _ => ?_)
  congr 1
  exact transpose_apply _ _ _ _ _ fun b => by match b with | ⟨0, _⟩ => rfl | ⟨1, _⟩ => rfl

theorem dot_ker (x : FVec Ideal S128x128 .f32) (w : FVec Ideal S512x128 .f32) (r : Fin 128) (c : Fin 512) :
    matmul dot_S128x128_S512x128_S128x512_1_1_0_0_n_n none x w (constant S128x512 .f32 0x00000000#32) (ix2 r c)
      = ∑ k : Fin 128, x (ix2 r k) * w (ix2 c k) := by
  refine (Ideal.matmul_transposedRhs_apply (M := 128) (K := 128) (N := 512) none x w (constant S128x512 .f32 0x00000000#32) r c).trans ?_
  show Ideal.ofBits .f32 0x00000000#32 + _ = _
  rw [Ideal.ofBits_zero_f32, zero_add]

theorem bias_ref (b : FVec Ideal S512 .f32) (r : Fin 128) (c : Fin 512) :
    broadcastInDim S128x512 ![0, 1] Cert.ReferenceIdeal.Gen.bcast_S1x512_S128x512_0_1 (broadcastInDim S1x512 ![1] Cert.ReferenceIdeal.Gen.bcast_S512_S1x512_1 b)
      (ix2 r c) = b (ix1 c) := by
  rw [broadcastInDim_apply _ _ _ _ (ix2 (n0 := 1) (n1 := 512) 0 c) (fun a => by match a with | ⟨0, _⟩ => rfl | ⟨1, _⟩ => rfl)]
  exact broadcastInDim_apply _ _ _ _ (ix1 c) (fun a => by match a with | ⟨0, _⟩ => rfl)

theorem bias_ker (b : FVec Ideal S512 .f32) (c : Fin 512) : shapeCast S1x512 b shapeCasts_S512_S1x512 (ix2 (n0 := 1) (n1 := 512) 0 c) = b (ix1 c) :=
  shapeCast_addUnit_apply (n := 1) ![512] b shapeCasts_S512_S1x512 _ |>.trans (congrArg b (funext fun (a : Fin 1) => by match a with | ⟨0, _⟩ => rfl))

theorem rgates_eq (wi wh : FVec Ideal S512x128 .f32) (bi bh : FVec Ideal S512 .f32) (h : FVec Ideal S128x128 .f32) (x : FVec Ideal S128x1x128 .f32) :
    rgates wi wh bi bh h x
      = gates (addf (shapeCast S1x512 bi shapeCasts_S512_S1x512) (shapeCast S1x512 bh shapeCasts_S512_S1x512)) wi wh h x := by
  funext j
  obtain ⟨r, c, rfl⟩ : ∃ (r : Fin 128) (c : Fin 512), j = ix2 r c := ⟨j 0, j 1, eq_ix2 j⟩
  show ((Host.dotGeneral _ none _ _ (ix2 r c) + broadcastInDim S128x512 _ _ _ (ix2 r c)) + Host.dotGeneral _ none _ _ (ix2 r c))
      + broadcastInDim S128x512 _ _ _ (ix2 r c)
    = (matmul _ none _ _ _ (ix2 r c) + matmul _ none _ _ _ (ix2 r c)) + broadcastTo S128x512 _ _ (ix2 r c)
  rw [dot_ref, dot_ref, bias_ref, bias_ref, dot_ker, dot_ker,
    broadcastTo_apply _ _ _ (ix2 (n0 := 1) (n1 := 512) 0 c) (fun a => by match a with | ⟨0, _⟩ => rfl | ⟨1, _⟩ => rfl)]
  show _ = _ + (shapeCast S1x512 bi _ (ix2 (n0 := 1) (n1 := 512) 0 c) + shapeCast S1x512 bh _ (ix2 (n0 := 1) (n1 := 512) 0 c))
  rw [bias_ker, bias_ker]
  ac_rfl

/-- The next cell and output as the reference prints them. -/
def rcell (g : FVec Ideal S128x512 .f32) (c : FVec Ideal S128x128 .f32) : FVec Ideal S128x128 .f32 :=
  addf (mulf (rsig (gF g)) c) (mulf (rsig (gI g)) (Host.tanh (gG g)))
def rout (g : FVec Ideal S128x512 .f32) (c' : FVec Ideal S128x128 .f32) : FVec Ideal S128x128 .f32 := mulf (rsig (gO g)) (Host.tanh c')

theorem rcell_eq (g : FVec Ideal S128x512 .f32) (c : FVec Ideal S128x128 .f32) : rcell g c = cellC g c := by
  unfold rcell; rw [rsig_eq, rsig_eq]; rfl
theorem rout_eq (g : FVec Ideal S128x512 .f32) (c : FVec Ideal S128x128 .f32) : rout g c = cellH g c := by
  unfold rout; rw [rsig_eq]; rfl

end Cert.Proof.K

end
-- ==== Proof.Chain.lean ====
/-
  The eight steps of the recurrence: the reference's composed terms are the states of the kernel's recurrence.
-/
module

public import proofs.«01_k».proof.Proof.Step
public import proofs.«01_k».proof.Proof.Gen.ReferenceIdeal.Run

@[expose] public section

noncomputable section

namespace Cert.Proof.K

open Cert.KernelIdeal Cert.KernelIdeal.Gen
open Idealize.ShloMosaic Idealize.ShloMosaic.ValueIdx

/-- One step: the reference's cell and output are the kernel's. -/
theorem step_eq (wi wh : FVec Ideal S512x128 .f32) (bi bh : FVec Ideal S512 .f32) (xs : ℕ → FVec Ideal S128x1x128 .f32) (t : ℕ)
    (g : FVec Ideal S128x512 .f32) (h c : FVec Ideal S128x128 .f32) (x : FVec Ideal S128x1x128 .f32)
    (hg : g = rgates wi wh bi bh h x)
    (hh : h = (st (addf (shapeCast S1x512 bi shapeCasts_S512_S1x512) (shapeCast S1x512 bh shapeCasts_S512_S1x512)) wi wh xs t).1)
    (hc : c = (st (addf (shapeCast S1x512 bi shapeCasts_S512_S1x512) (shapeCast S1x512 bh shapeCasts_S512_S1x512)) wi wh xs t).2)
    (hx : x = xs t) :
    rout g (rcell g c) = (st (addf (shapeCast S1x512 bi shapeCasts_S512_S1x512) (shapeCast S1x512 bh shapeCasts_S512_S1x512)) wi wh xs (t + 1)).1
      ∧ rcell g c = (st (addf (shapeCast S1x512 bi shapeCasts_S512_S1x512) (shapeCast S1x512 bh shapeCasts_S512_S1x512)) wi wh xs (t + 1)).2 := by
  subst hg hh hc hx
  rw [rgates_eq, rcell_eq, rout_eq]
  exact ⟨rfl, rfl⟩

theorem slice_eq (x : FVec Ideal S128x8x128 .f32) (t : ℕ) (ht : t < 8) (h : S128x8x128.Slices ![0, t, 0] S128x1x128) :
    extractStridedSlice S128x1x128 ![0, t, 0] x h = plane x t := by
  funext y
  refine extractStridedSlice_apply _ _ _ _ _ fun (a : Fin 3) => ?_
  match a with
  | ⟨0, _⟩ => exact (Nat.zero_add _).symm
  | ⟨1, _⟩ =>
    have h1 : (y 1).val = 0 := by have : (y 1).val < 1 := (y 1).isLt; omega
    show t % 8 = t + (y 1).val
    rw [h1, Nat.mod_eq_of_lt ht]; rfl
  | ⟨2, _⟩ => exact (Nat.zero_add _).symm

section
open Cert.ReferenceIdeal.Value

variable (V0 : Valuation Cert.ReferenceIdeal.τ Cert.ReferenceIdeal.sig (Elt Ideal))

def aWi : FVec Ideal S512x128 .f32 := V0 (Proc.devRef .tc Cert.ReferenceIdeal.main_arg2)
def aWh : FVec Ideal S512x128 .f32 := V0 (Proc.devRef .tc Cert.ReferenceIdeal.main_arg3)
def aBi : FVec Ideal S512 .f32 := V0 (Proc.devRef .tc Cert.ReferenceIdeal.main_arg4)
def aBh : FVec Ideal S512 .f32 := V0 (Proc.devRef .tc Cert.ReferenceIdeal.main_arg5)
/-- The gathered leaf inputs. -/
def xin : FVec Ideal S128x8x128 .f32 := res_main_v0 V0

/-- The reference's output after the eighth step. -/
def rlast : FVec Ideal S128x128 .f32 := rout (res_main_v302 V0) (rcell (res_main_v302 V0) (res_main_v281 V0))

theorem rlast_eq : rlast V0 = lstmH (xin V0) (aWi V0) (aWh V0) (shapeCast S1x512 (aBi V0) shapeCasts_S512_S1x512) (shapeCast S1x512 (aBh V0) shapeCasts_S512_S1x512) := by
  have s1 := step_eq (aWi V0) (aWh V0) (aBi V0) (aBh V0) (plane (xin V0)) 0 (res_main_v15 V0) rzero rzero _ rfl rzero_eq rzero_eq (slice_eq (xin V0) 0 (by decide) Cert.ReferenceIdeal.Gen.slices_S128x8x128_S128x1x128_0_0_0)
  have s2 := step_eq (aWi V0) (aWh V0) (aBi V0) (aBh V0) (plane (xin V0)) 1 (res_main_v56 V0) (rout (res_main_v15 V0) (res_main_v35 V0)) (res_main_v35 V0) _ rfl s1.1 s1.2 (slice_eq (xin V0) 1 (by decide) Cert.ReferenceIdeal.Gen.slices_S128x8x128_S128x1x128_0_1_0)
  have s3 := step_eq (aWi V0) (aWh V0) (aBi V0) (aBh V0) (plane (xin V0)) 2 (res_main_v97 V0) (rout (res_main_v56 V0) (res_main_v76 V0)) (res_main_v76 V0) _ rfl s2.1 s2.2 (slice_eq (xin V0) 2 (by decide) Cert.ReferenceIdeal.Gen.slices_S128x8x128_S128x1x128_0_2_0)
  have s4 := step_eq (aWi V0) (aWh V0) (aBi V0) (aBh V0) (plane (xin V0)) 3 (res_main_v138 V0) (rout (res_main_v97 V0) (res_main_v117 V0)) (res_main_v117 V0) _ rfl s3.1 s3.2 (slice_eq (xin V0) 3 (by decide) Cert.ReferenceIdeal.Gen.slices_S128x8x128_S128x1x128_0_3_0)
  have s5 := step_eq (aWi V0) (aWh V0) (aBi V0) (aBh V0) (plane (xin V0)) 4 (res_main_v179 V0) (rout (res_main_v138 V0) (res_main_v158 V0)) (res_main_v158 V0) _ rfl s4.1 s4.2 (slice_eq (xin V0) 4 (by decide) Cert.ReferenceIdeal.Gen.slices_S128x8x128_S128x1x128_0_4_0)
  have s6 := step_eq (aWi V0) (aWh V0) (aBi V0) (aBh V0) (plane (xin V0)) 5 (res_main_v220 V0) (rout (res_main_v179 V0) (res_main_v199 V0)) (res_main_v199 V0) _ rfl s5.1 s5.2 (slice_eq (xin V0) 5 (by decide) Cert.ReferenceIdeal.Gen.slices_S128x8x128_S128x1x128_0_5_0)
  have s7 := step_eq (aWi V0) (aWh V0) (aBi V0) (aBh V0) (plane (xin V0)) 6 (res_main_v261 V0) (rout (res_main_v220 V0) (res_main_v240 V0)) (res_main_v240 V0) _ rfl s6.1 s6.2 (slice_eq (xin V0) 6 (by decide) Cert.ReferenceIdeal.Gen.slices_S128x8x128_S128x1x128_0_6_0)
  have s8 := step_eq (aWi V0) (aWh V0) (aBi V0) (aBh V0) (plane (xin V0)) 7 (res_main_v302 V0) (rout (res_main_v261 V0) (res_main_v281 V0)) (res_main_v281 V0) _ rfl s7.1 s7.2 (slice_eq (xin V0) 7 (by decide) Cert.ReferenceIdeal.Gen.slices_S128x8x128_S128x1x128_0_7_0)
  exact s8.1

end

end Cert.Proof.K

end
-- ==== Proof.Inputs.lean ====
/-
  The leaf inputs: under the precondition on the paths the reference's gather reads the rows the SparseCore copies.
-/
module

public import proofs.«01_k».proof.Proof.Chain
public import proofs.«01_k».proof.Proof.Setup
public import proofs.«01_k».proof.Pre_fixed_paths
public import Idealize.ShloMosaic.Lib.WordArith
public import Idealize.ShloMosaic.Lib.ReduceAll
public import Idealize.ShloMosaic.Lib.ValueIdxCore
public import Idealize.ShloMosaic.Lib.Affine

@[expose] public section

noncomputable section

namespace Cert.Proof.K

open Cert.KernelIdeal Cert.KernelIdeal.Gen
open Idealize.ShloMosaic Idealize.ShloMosaic.ValueIdx

/-- The side conditions of the precondition's operations. -/
theorem factsPre : Cert.Pre_fixed_paths.Facts where
  bcast_S_S128x8 := by decide
  reducesTo_S128x8_S_d0_1 := by decide
  h_S_ := by decide

/-- The row a path's step reads. -/
def rowOf (l : Fin 128) (s : Fin 8) : Fin 524288 := ⟨65536 * (l.val / 16) + 8 * (l.val % 16) + s.val, by omega⟩

theorem word_of (l : Fin 128) (s : Fin 8) :
    IntOp.addi (IntOp.addi (IntOp.muli (IntOp.divsi .host (BitVec.ofNat 32 l.val) 16#32) 65536#32)
        (IntOp.muli (IntOp.subi (BitVec.ofNat 32 l.val) (IntOp.muli (IntOp.divsi .host (BitVec.ofNat 32 l.val) 16#32) 16#32)) 8#32)) (BitVec.ofNat 32 s.val)
      = BitVec.ofNat 32 (rowOf l s).val := by
  rw [(show ∀ l : Fin 128, IntOp.addi (IntOp.muli (IntOp.divsi .host (BitVec.ofNat 32 l.val) 16#32) 65536#32)
        (IntOp.muli (IntOp.subi (BitVec.ofNat 32 l.val) (IntOp.muli (IntOp.divsi .host (BitVec.ofNat 32 l.val) 16#32) 16#32)) 8#32)
      = BitVec.ofNat 32 (65536 * (l.val / 16) + 8 * (l.val % 16)) by decide) l]
  exact (BitVec.ofNat_add _ _).symm

/-- Under the precondition the paths are the fixed ones. -/
theorem paths_word (a0 : FVec Ideal S256x128 .f32) (a1 : FVec Ideal S524288x128 .f32) (a2 a3 : FVec Ideal S512x128 .f32) (a4 a5 : FVec Ideal S512 .f32)
    (a6 : IVec S128x8 32)
    (h : @Cert.Pre_fixed_paths.fn factsPre Ideal _ a0 a1 a2 a3 a4 a5 a6 = fun _ => 1#1) (l : Fin 128) (s : Fin 8) :
    a6 (ix2 l s) = BitVec.ofNat 32 (rowOf l s).val := by
  have hsub : Subsingleton (S_ : Shape).Idx := ⟨fun a b => funext fun (i : Fin 0) => i.elim0⟩
  have e := Host.reduce_andi_all _ _ _ _ _ (congrFun h (fun i : Fin 0 => i.elim0)) (ix2 l s)
  have e' : IntOp.cmpi .eq (a6 (ix2 l s)) (IntOp.addi (IntOp.addi (IntOp.muli (IntOp.divsi .host (BitVec.ofNat 32 l.val) 16#32) 65536#32)
        (IntOp.muli (IntOp.subi (BitVec.ofNat 32 l.val) (IntOp.muli (IntOp.divsi .host (BitVec.ofNat 32 l.val) 16#32) 16#32)) 8#32)) (BitVec.ofNat 32 s.val)) = 1#1 := e
  rw [word_of] at e'
  exact IntOp.cmpi_eq.1 e'

theorem slt_zero {n : ℕ} (h : n < 2 ^ 31) : IntOp.cmpi .slt (BitVec.ofNat 32 n) 0#32 = 0#1 := by
  refine eq_zero_of_ne_one fun e => ?_
  have := IntOp.cmpi_slt.1 e
  rw [WordArith.toInt_ofNat_small n h] at this
  have h0 : (0#32 : BitVec 32).toInt = 0 := by decide
  omega
theorem sge_zero {n : ℕ} (h : n < 2 ^ 31) : IntOp.cmpi .sge (BitVec.ofNat 32 n) 0#32 = 1#1 := by
  refine IntOp.cmpi_sge.2 ?_
  rw [WordArith.toInt_ofNat_small n h]
  have h0 : (0#32 : BitVec 32).toInt = 0 := by decide
  omega
theorem sle_of_le {n k : ℕ} (hk : k < 2 ^ 31) (h : n ≤ k) : IntOp.cmpi .sle (BitVec.ofNat 32 n) (BitVec.ofNat 32 k) = 1#1 := by
  refine IntOp.cmpi_sle.2 ?_
  rw [WordArith.toInt_ofNat_small n (by omega), WordArith.toInt_ofNat_small k hk]
  omega

/-- The first gather: a row of the table by the word at each leaf and step. -/
theorem gather_rows (x : FVec Ideal S524288x128 .f32) (idx : IVec Cert.ReferenceIdeal.S128x8x1 32) (l : Fin 128) (s : Fin 8) (y : Fin 128) (r : Fin 524288)
    (hr : idx (ix3 (n0 := 128) (n1 := 8) (n2 := 1) l s 0) = BitVec.ofNat 32 r.val) :
    Host.gather Cert.ReferenceIdeal.gather_S524288x128_S128x8x1_S128x8x128_2_0_n_n_0_2_1128 x idx (ix3 (n0 := 128) (n1 := 8) (n2 := 128) l s y) = x (ix2 r y) := by
  unfold Host.gather
  refine congrArg x (funext fun (a : Fin 2) => Fin.ext ?_)
  generalize hd : Cert.ReferenceIdeal.gather_S524288x128_S128x8x1_S128x8x128_2_0_n_n_0_2_1128 = d
  have hN : ∀ a', a' ∉ d.operandBatchingDims := fun a' => by subst hd; exact List.not_mem_nil
  match a with
  | ⟨0, _⟩ =>
    have hk : (0 : Fin 2) ∉ d.sKept := fun h => ((d.mem_sKept 0).1 h).1 (by subst hd; exact List.mem_singleton.2 rfl)
    have hm : (0 : Fin 2) ∈ d.startIndexMap := by subst hd; exact List.mem_singleton.2 rfl
    have hsl : d.sliceSizes 0 = 1 := by subst hd; rfl
    show d.start (ix3 l s y) idx 0 + d.batchCoord (ix3 l s y) 0 + d.offCoord (ix3 l s y) 0 = r.val
    rw [d.batchCoord_eq_zero _ _ (hN 0), d.offCoord_eq_zero _ _ hk]
    simp only [Nat.add_zero]
    unfold GatherDims.start
    rw [dif_pos hm]
    have hsi : d.siIdx (ix3 l s y) ⟨d.startIndexMap.idxOf 0, List.idxOf_lt_length_iff.2 hm⟩ = ix3 (n0 := 128) (n1 := 8) (n2 := 1) l s 0 := by
      subst hd
      funext (b : Fin 3)
      refine Fin.ext ?_
      match b with
      | ⟨0, _⟩ => rfl
      | ⟨1, _⟩ => rfl
      | ⟨2, _⟩ => rfl
    have hlt := r.isLt
    rw [hsi, hr, hsl, WordArith.toInt_ofNat_small _ (by omega)]
    show min ((r.val : Int)).toNat (524288 - 1) = r.val
    omega
  | ⟨1, _⟩ =>
    have hm : (1 : Fin 2) ∉ d.startIndexMap := by subst hd; decide
    have hk : (1 : Fin 2) ∈ d.sKept := by subst hd; decide
    show d.start (ix3 l s y) idx 1 + d.batchCoord (ix3 l s y) 1 + d.offCoord (ix3 l s y) 1 = y.val
    rw [d.batchCoord_eq_zero _ _ (hN 1), Nat.add_zero]
    unfold GatherDims.start GatherDims.offCoord
    rw [dif_neg hm, dif_pos hk, Nat.zero_add]
    subst hd
    rfl

section
open Cert.ReferenceIdeal.Value

variable (V0 : Valuation Cert.ReferenceIdeal.τ Cert.ReferenceIdeal.sig (Elt Ideal))

def aTab : FVec Ideal S524288x128 .f32 := V0 (Proc.devRef .tc Cert.ReferenceIdeal.main_arg1)
def aPaths : IVec S128x8 32 := V0 (Proc.devRef .tc Cert.ReferenceIdeal.main_arg6)
/-- The row numbers, a negative one counted from the end. -/
def rowIdx : IVec Cert.ReferenceIdeal.S128x8x1 32 := res_main_call0_v5 V0

theorem rowIdx_apply (h : ∀ l s, aPaths V0 (ix2 l s) = BitVec.ofNat 32 (rowOf l s).val) (l : Fin 128) (s : Fin 8) :
    rowIdx V0 (ix3 (n0 := 128) (n1 := 8) (n2 := 1) l s 0) = BitVec.ofNat 32 (rowOf l s).val := by
  refine (broadcastInDim_apply _ Cert.ReferenceIdeal.Gen.bcast_S128x8_S128x8x1_0_1 _ _ (ix2 (n0 := 128) (n1 := 8) l s) (fun a => by match a with | ⟨0, _⟩ => rfl | ⟨1, _⟩ => rfl)).trans ?_
  show Scalar.select (IntOp.cmpi .slt (aPaths V0 (ix2 l s)) 0#32) _ (aPaths V0 (ix2 l s)) = _
  rw [h, slt_zero (by have := (rowOf l s).isLt; omega), select_zero]

theorem xin_eq (h : ∀ l s, aPaths V0 (ix2 l s) = BitVec.ofNat 32 (rowOf l s).val) :
    xin V0 = shapeCast S128x8x128 (gathered (F := Ideal) (aTab V0)) shapeCasts_S1024x128_S128x8x128 := by
  funext i
  obtain ⟨l, s, y, rfl⟩ : ∃ (l : Fin 128) (s : Fin 8) (y : Fin 128), i = ix3 l s y := ⟨i 0, i 1, i 2, eq_ix3 i⟩
  have hmask : Host.reduce IntOp.andi (andi (cmpi .sge (rowIdx V0) (broadcastInDim Cert.ReferenceIdeal.S128x8x1 ![] Cert.ReferenceIdeal.Gen.bcast_S_S128x8x1 (constantI S_ 32 0#32)))
      (cmpi .sle (rowIdx V0) (broadcastInDim Cert.ReferenceIdeal.S128x8x1 ![0, 1, 2] Cert.ReferenceIdeal.Gen.bcast_S1x1x1_S128x8x1_0_1_2 (broadcastInDim Cert.ReferenceIdeal.S1x1x1 ![2] Cert.ReferenceIdeal.Gen.bcast_S1_S1x1x1_2 (constantI Cert.ReferenceIdeal.S1 32 524287#32)))))
      (constantI S_ 1 1#1) Cert.ReferenceIdeal.Gen.reducesTo_S128x8x1_S128x8_d2 Cert.ReferenceIdeal.Gen.h_S_ (ix2 l s) = 1#1 := by
    refine Host.reduce_andi_one _ _ _ _ _ rfl fun j => ?_
    obtain ⟨l', s', z, rfl⟩ : ∃ (l' : Fin 128) (s' : Fin 8) (z : Fin 1), j = ix3 l' s' z := ⟨j 0, j 1, j 2, eq_ix3 j⟩
    obtain rfl : z = 0 := Subsingleton.elim _ _
    show IntOp.andi (IntOp.cmpi .sge (rowIdx V0 (ix3 l' s' 0)) 0#32) (IntOp.cmpi .sle (rowIdx V0 (ix3 l' s' 0)) (BitVec.ofNat 32 524287)) = 1#1
    have hlt := (rowOf l' s').isLt
    rw [rowIdx_apply V0 h, sge_zero (by omega), sle_of_le (by norm_num) (by omega)]
    decide
  have e : xin V0 (ix3 l s y) = Scalar.select (Host.reduce IntOp.andi (andi (cmpi .sge (rowIdx V0) (broadcastInDim Cert.ReferenceIdeal.S128x8x1 ![] Cert.ReferenceIdeal.Gen.bcast_S_S128x8x1 (constantI S_ 32 0#32)))
      (cmpi .sle (rowIdx V0) (broadcastInDim Cert.ReferenceIdeal.S128x8x1 ![0, 1, 2] Cert.ReferenceIdeal.Gen.bcast_S1x1x1_S128x8x1_0_1_2 (broadcastInDim Cert.ReferenceIdeal.S1x1x1 ![2] Cert.ReferenceIdeal.Gen.bcast_S1_S1x1x1_2 (constantI Cert.ReferenceIdeal.S1 32 524287#32)))))
      (constantI S_ 1 1#1) Cert.ReferenceIdeal.Gen.reducesTo_S128x8x1_S128x8_d2 Cert.ReferenceIdeal.Gen.h_S_ (ix2 l s))
      (Host.gather Cert.ReferenceIdeal.gather_S524288x128_S128x8x1_S128x8x128_2_0_n_n_0_2_1128 (aTab V0) (rowIdx V0) (ix3 (n0 := 128) (n1 := 8) (n2 := 128) l s y))
      (Ideal.ofBits .f32 0x7FC00000#32) := by
    refine congrArg (fun p => Scalar.select p _ _) ?_
    exact broadcastInDim_apply _ Cert.ReferenceIdeal.Gen.bcast_S128x8_S128x8x128_0_1 _ _ (ix2 (n0 := 128) (n1 := 8) l s) (fun a => by match a with | ⟨0, _⟩ => rfl | ⟨1, _⟩ => rfl)
  rw [e, hmask, select_one, gather_rows (aTab V0) (rowIdx V0) l s y (rowOf l s) (rowIdx_apply V0 h l s)]
  rw [shapeCast_apply (gathered (F := Ideal) (aTab V0)) shapeCasts_S1024x128_S128x8x128 (ix3 (n0 := 128) (n1 := 8) (n2 := 128) l s y)
    (ix2 (n0 := 1024) (n1 := 128) ⟨l.val * 8 + s.val, by omega⟩ y) (by
      rw [Shape.rowMajor_val_two, Shape.rowMajor_val_three]; rfl)]
  refine congrArg (aTab V0) (funext fun (a : Fin 2) => ?_)
  match a with
  | ⟨0, _⟩ =>
    refine Fin.ext ?_
    show 65536 * (l.val / 16) + 8 * (l.val % 16) + s.val = 65536 * ((l.val * 8 + s.val) / 128) + (l.val * 8 + s.val) % 128
    omega
  | ⟨1, _⟩ => rfl

end

end Cert.Proof.K

end
-- ==== Proof.Leaf.lean ====
/-
  Which leaf a batch row selects in a tree: the last of the tree's sixteen lanes whose feature is positive. The kernel finds
  it as the top bit of the sum of the powers of two of the positive lanes; the mask it computes is one there, zero elsewhere.
-/
module

public import proofs.«01_k».proof.Proof.Cell
public import Idealize.ShloMosaic.PureOps.Ideal.Laws
public import Idealize.ShloMosaic.Lib.IdealHost
public import Idealize.ShloMosaic.Lib.MatmulPlain
public import Mathlib.Algebra.Order.Ring.GeomSum

@[expose] public section

noncomputable section

namespace Cert.Proof.K

open Cert.KernelIdeal Cert.KernelIdeal.Gen
open Idealize.ShloMosaic Idealize.ShloMosaic.ValueIdx

/-- Lane `j` of tree `t`. -/
def lane (t : Fin 8) (j : Fin 16) : Fin 128 := ⟨16 * t.val + j.val, by omega⟩

open Classical in
/-- The positive lanes of tree `t` in row `b`. -/
def lit (a : FVec Ideal S256x128 .f32) (b : Fin 256) (t : Fin 8) : Finset (Fin 16) :=
  Finset.univ.filter fun j => 0 < (a (ix2 b (lane t j)) : EReal)

/-- `j` is the last of them. -/
def IsTop (S : Finset (Fin 16)) (j : Fin 16) : Prop := j ∈ S ∧ ∀ i ∈ S, i ≤ j

theorem exists_top {S : Finset (Fin 16)} (h : S.Nonempty) : ∃ j, IsTop S j := ⟨S.max' h, S.max'_mem h, fun i hi => S.le_max' i hi⟩

theorem IsTop.unique {S : Finset (Fin 16)} {i j : Fin 16} (hi : IsTop S i) (hj : IsTop S j) : i = j := le_antisymm (hj.2 i hi.1) (hi.2 j hj.1)

/-- The sum of the powers of two of a set of lanes. -/
def mask (S : Finset (Fin 16)) : ℕ := ∑ j ∈ S, 2 ^ j.val

theorem mask_log {S : Finset (Fin 16)} {j : Fin 16} (h : IsTop S j) : Nat.log2 (mask S) = j.val := by
  have lo : 2 ^ j.val ≤ mask S := Finset.single_le_sum (f := fun j : Fin 16 => 2 ^ j.val) (fun _ _ => Nat.zero_le _) h.1
  have hi : mask S < 2 ^ (j.val + 1) := by
    have e : mask S = ∑ k ∈ S.map Fin.valEmbedding, 2 ^ k := by rw [Finset.sum_map]; rfl
    rw [e]
    refine Nat.geomSum_lt (le_refl 2) fun k hk => ?_
    obtain ⟨i, hi, rfl⟩ := Finset.mem_map.1 hk
    exact Nat.lt_succ_of_le (h.2 i hi)
  have h0 : mask S ≠ 0 := by have := Nat.two_pow_pos j.val; omega
  rw [Nat.log2_eq_iff h0]; exact ⟨lo, hi⟩

theorem mask_lt (S : Finset (Fin 16)) : mask S < 2 ^ 16 := by
  have e : mask S = ∑ k ∈ S.map Fin.valEmbedding, 2 ^ k := by rw [Finset.sum_map]; rfl
  rw [e]
  refine Nat.geomSum_lt (le_refl 2) fun k hk => ?_
  obtain ⟨i, _, rfl⟩ := Finset.mem_map.1 hk
  exact i.isLt

/-- A natural number below 2 ^ 31 converts exactly. -/
theorem fptosi_nat {n : ℕ} (h : n < 2 ^ 31) : Ideal.fptosi 32 ((n : ℕ) : EReal) = BitVec.ofNat 32 n := by
  have e : ((n : ℕ) : EReal) = ((n : ℝ) : EReal) := by norm_cast
  rw [e, Ideal.fptosi, Ideal.toIntClamped_coe, if_pos (by positivity), Int.floor_natCast,
    min_eq_right (by have : (n : ℤ) < 2 ^ 31 := by exact_mod_cast h
                     norm_num at this ⊢; omega),
    max_eq_right (by norm_num), BitVec.ofInt_natCast]

/-- The top bit's number, as the kernel computes it. -/
theorem top_word {S : Finset (Fin 16)} {j : Fin 16} (h : IsTop S j) :
    IntOp.subi 31#32 (IntOp.ctlz (BitVec.ofNat 32 (mask S))) = BitVec.ofNat 32 j.val := by
  have lt := mask_lt S
  have h0 : 0 < mask S := by
    have : 2 ^ j.val ≤ mask S := Finset.single_le_sum (f := fun j : Fin 16 => 2 ^ j.val) (fun _ _ => Nat.zero_le _) h.1
    have := Nat.two_pow_pos j.val; omega
  have hn : (BitVec.ofNat 32 (mask S)).toNat = mask S := by rw [BitVec.toNat_ofNat]; exact Nat.mod_eq_of_lt (by omega)
  have hz : BitVec.ofNat 32 (mask S) ≠ 0 := fun e => by rw [e] at hn; simp at hn; omega
  unfold IntOp.ctlz
  rw [if_neg hz, hn, mask_log h]
  exact (show ∀ i : Fin 16, IntOp.subi 31#32 (BitVec.ofNat 32 (32 - 1 - i.val)) = BitVec.ofNat 32 i.val by decide) j

/-- The word of a lane's power of two denotes it. -/
theorem pow_word (k : Fin 128) :
    Ideal.ofBits .f32 (IntOp.shli .vector (IntOp.addi (IntOp.andi (BitVec.ofNat 32 k.val) 15#32) 127#32) 23#32) = ((2 ^ (k.val % 16) : ℕ) : EReal) := by
  have e : IntOp.shli .vector (IntOp.addi (IntOp.andi (BitVec.ofNat 32 k.val) 15#32) 127#32) 23#32
      = BitVec.ofNat 32 ((k.val % 16 + 127) * 2 ^ 23) := by revert k; decide
  rw [e]
  generalize hj : k.val % 16 = j
  have hlt : j < 16 := by omega
  interval_cases j <;> simp [Ideal.ofBits, Ideal.ieee, -EReal.coe_mul] <;> norm_num <;> norm_cast

/-- The bit of `x > 0`. -/
theorem pos_bit (x : EReal) : Ideal.cmp .ogt x 0 = if 0 < x then 1#1 else 0#1 := by
  unfold Ideal.cmp
  by_cases h : (0 : EReal) < x <;> simp [h]

/-- What lane `k` adds to the sum: its power of two, if it is positive. -/
def powAt (a : FVec Ideal S256x128 .f32) : FVec Ideal S256x128 .f32 :=
  select (cmpf .ogt a (broadcast S256x128 (Scalar.ofBits .f32 0x00000000#32)))
    (bitcastToFloat .f32 (shli (addi (andi (iota .tc S256x128 32 [1] iota_S256x128_d1_w32) (broadcast S256x128 15#32)) (broadcast S256x128 127#32)) (broadcast S256x128 23#32)))
    (broadcast S256x128 (Scalar.ofBits .f32 0x00000000#32))

open Classical in
theorem powAt_apply (a : FVec Ideal S256x128 .f32) (b : Fin 256) (k : Fin 128) :
    powAt a (ix2 b k) = ((if 0 < (a (ix2 b k) : EReal) then 2 ^ (k.val % 16) else 0 : ℕ) : EReal) := by
  have e : powAt a (ix2 b k) = Scalar.select (Ideal.cmp .ogt (a (ix2 b k)) (Ideal.ofBits .f32 0x00000000#32))
      (Ideal.ofBits .f32 (IntOp.shli .vector (IntOp.addi (IntOp.andi (iota .tc S256x128 32 [1] iota_S256x128_d1_w32 (ix2 b k)) 15#32) 127#32) 23#32))
      (Ideal.ofBits .f32 0x00000000#32) := rfl
  rw [e, iota_single_apply, Ideal.ofBits_zero_f32, pos_bit]
  split
  · rw [select_one]; exact pow_word k
  · rw [select_zero, Nat.cast_zero]

/-- The mask of equal trees. -/
def sameTree : FVec Ideal S128x128 .f32 :=
  select (cmpi .eq (shrsi (iota .tc S128x128 32 [0] iota_S128x128_d0_w32) (broadcast S128x128 4#32)) (shrsi (iota .tc S128x128 32 [1] iota_S128x128_d1_w32) (broadcast S128x128 4#32)))
    (broadcast S128x128 (Scalar.ofBits .f32 0x3F800000#32)) (broadcast S128x128 (Scalar.ofBits .f32 0x00000000#32))

theorem tree_bit (i k : Fin 128) : IntOp.cmpi .eq (IntOp.shrsi .vector (BitVec.ofNat 32 i.val) 4#32) (IntOp.shrsi .vector (BitVec.ofNat 32 k.val) 4#32)
    = if i.val / 16 = k.val / 16 then 1#1 else 0#1 := by
  have h : ∀ i : Fin 128, IntOp.shrsi .vector (BitVec.ofNat 32 i.val) 4#32 = BitVec.ofNat 32 (i.val / 16) := by decide
  rw [h, h]
  have h' : ∀ x y : Fin 8, IntOp.cmpi .eq (BitVec.ofNat 32 x.val) (BitVec.ofNat 32 y.val) = if x.val = y.val then 1#1 else 0#1 := by decide
  exact h' ⟨i.val / 16, by omega⟩ ⟨k.val / 16, by omega⟩

theorem sameTree_apply (i k : Fin 128) : sameTree (ix2 i k) = if i.val / 16 = k.val / 16 then (1 : EReal) else 0 := by
  have e : sameTree (ix2 i k) = Scalar.select (IntOp.cmpi .eq (IntOp.shrsi .vector (iota .tc S128x128 32 [0] iota_S128x128_d0_w32 (ix2 i k)) 4#32)
      (IntOp.shrsi .vector (iota .tc S128x128 32 [1] iota_S128x128_d1_w32 (ix2 i k)) 4#32)) (Ideal.ofBits .f32 0x3F800000#32) (Ideal.ofBits .f32 0x00000000#32) := rfl
  rw [e, iota_single_apply, iota_single_apply]
  show Scalar.select (IntOp.cmpi .eq (IntOp.shrsi .vector (BitVec.ofNat 32 i.val) 4#32) (IntOp.shrsi .vector (BitVec.ofNat 32 k.val) 4#32)) _ _ = _
  rw [tree_bit, Ideal.ofBits_one_f32, Ideal.ofBits_zero_f32]
  split
  · exact select_one _ _
  · exact select_zero _ _

/-- The sum over the lanes of `k`'s tree. -/
def maskSum (a : FVec Ideal S256x128 .f32) : FVec Ideal S256x128 .f32 :=
  matmul dot_S256x128_S128x128_S256x128_1_0_0_1_n_n none (powAt a) sameTree (constant S256x128 .f32 0x00000000#32)

/-- The tree of a lane, and its number in the tree. -/
def treeOf (k : Fin 128) : Fin 8 := ⟨k.val / 16, by omega⟩
def numOf (k : Fin 128) : Fin 16 := ⟨k.val % 16, by omega⟩

theorem lane_num (k : Fin 128) : lane (treeOf k) (numOf k) = k := Fin.ext (by show 16 * (k.val / 16) + k.val % 16 = k.val; omega)

theorem maskSum_apply (a : FVec Ideal S256x128 .f32) (b : Fin 256) (k : Fin 128) :
    maskSum a (ix2 b k) = ((mask (lit a b (treeOf k)) : ℕ) : EReal) := by
  classical
  refine (Ideal.matmul_plain_apply (M := 256) (K := 128) (N := 128) none (powAt a) sameTree (constant S256x128 .f32 0x00000000#32) b k).trans ?_
  show Ideal.ofBits .f32 0x00000000#32 + _ = _
  rw [Ideal.ofBits_zero_f32, zero_add]
  have e : ∀ i : Fin 128, powAt a (ix2 b i) * sameTree (ix2 i k)
      = ((if i.val / 16 = k.val / 16 ∧ 0 < (a (ix2 b i) : EReal) then 2 ^ (i.val % 16) else 0 : ℕ) : EReal) := fun i => by
    rw [powAt_apply, sameTree_apply]
    by_cases h1 : i.val / 16 = k.val / 16
    · rw [if_pos h1, mul_one]; simp [h1]
    · rw [if_neg h1, mul_zero]; simp [h1]
  rw [Finset.sum_congr rfl fun i _ => e i, ← Nat.cast_sum, ← Finset.sum_filter]
  congr 1
  unfold mask
  refine Finset.sum_nbij' (fun i => numOf i) (fun j => lane (treeOf k) j) ?_ ?_ ?_ ?_ ?_
  · intro i hi
    obtain ⟨-, h1, h2⟩ := Finset.mem_filter.1 hi
    refine Finset.mem_filter.2 ⟨Finset.mem_univ _, ?_⟩
    have : lane (treeOf k) (numOf i) = i := Fin.ext (by show 16 * (k.val / 16) + i.val % 16 = i.val; omega)
    rw [this]; exact h2
  · intro j hj
    obtain ⟨-, h⟩ := Finset.mem_filter.1 hj
    refine Finset.mem_filter.2 ⟨Finset.mem_univ _, ?_, h⟩
    show (16 * (k.val / 16) + j.val) / 16 = k.val / 16
    omega
  · intro i hi
    obtain ⟨-, h1, h2⟩ := Finset.mem_filter.1 hi
    exact Fin.ext (by show 16 * (k.val / 16) + i.val % 16 = i.val; omega)
  · intro j hj
    exact Fin.ext (by show (16 * (k.val / 16) + j.val) % 16 = j.val; omega)
  · intro i _; rfl

theorem and_zero (u v : BitVec 1) : IntOp.andi (IntOp.andi 0#1 u) v = 0#1 :=
  (show ∀ u v : BitVec 1, IntOp.andi (IntOp.andi 0#1 u) v = 0#1 by decide) u v

open Classical in
/-- The kernel's mask: one at a tree's last positive lane, zero elsewhere. -/
theorem onehot (a : FVec Ideal S256x128 .f32) (b : Fin 256) (k : Fin 128) :
    (k1_pay1 (F := Ideal) a (ix2 b k) : EReal) = if IsTop (lit a b (treeOf k)) (numOf k) then (1 : EReal) else 0 := by
  have e : k1_pay1 (F := Ideal) a (ix2 b k) = Scalar.select
      (IntOp.andi (IntOp.andi (Ideal.cmp .ogt (a (ix2 b k)) (Ideal.ofBits .f32 0x00000000#32))
          (IntOp.cmpi .eq (IntOp.andi (iota .tc S256x128 32 [1] iota_S256x128_d1_w32 (ix2 b k)) 15#32)
            (IntOp.subi 31#32 (IntOp.ctlz (Ideal.fptosi 32 (maskSum a (ix2 b k)))))))
        (Ideal.cmp .ogt (maskSum a (ix2 b k)) (Ideal.ofBits .f32 0x00000000#32)))
      (Ideal.ofBits .f32 0x3F800000#32) (Ideal.ofBits .f32 0x00000000#32) := rfl
  rw [e, iota_single_apply, Ideal.ofBits_zero_f32, Ideal.ofBits_one_f32, pos_bit, pos_bit, maskSum_apply]
  by_cases h : 0 < (a (ix2 b k) : EReal)
  · have hm : numOf k ∈ lit a b (treeOf k) := Finset.mem_filter.2 ⟨Finset.mem_univ _, by rw [lane_num]; exact h⟩
    obtain ⟨j, hj⟩ := exists_top ⟨_, hm⟩
    have hpos : 0 < mask (lit a b (treeOf k)) := by
      have : 2 ^ j.val ≤ mask (lit a b (treeOf k)) :=
        Finset.single_le_sum (f := fun j : Fin 16 => 2 ^ j.val) (fun _ _ => Nat.zero_le _) hj.1
      have := Nat.two_pow_pos j.val; omega
    have hpos' : (0 : EReal) < ((mask (lit a b (treeOf k)) : ℕ) : EReal) := by exact_mod_cast hpos
    have lt := mask_lt (lit a b (treeOf k))
    rw [if_pos h, if_pos hpos', fptosi_nat (by omega), top_word hj]
    have hw : IntOp.andi (BitVec.ofNat 32 k.val) 15#32 = BitVec.ofNat 32 (numOf k).val :=
      (show ∀ k : Fin 128, IntOp.andi (BitVec.ofNat 32 k.val) 15#32 = BitVec.ofNat 32 (k.val % 16) by decide) k
    show Scalar.select (IntOp.andi (IntOp.andi 1#1 (IntOp.cmpi .eq (IntOp.andi (BitVec.ofNat 32 k.val) 15#32) _)) 1#1) _ _ = _
    rw [hw, (show ∀ x y : Fin 16, IntOp.andi (IntOp.andi 1#1 (IntOp.cmpi .eq (BitVec.ofNat 32 x.val) (BitVec.ofNat 32 y.val))) 1#1
      = if x = y then 1#1 else 0#1 by decide) (numOf k) j]
    by_cases hk : numOf k = j
    · rw [if_pos hk, if_pos (hk ▸ hj), select_one]
    · rw [if_neg hk, if_neg (fun ht => hk (ht.unique hj)), select_zero]
  · have hn : ¬ IsTop (lit a b (treeOf k)) (numOf k) := fun ht => h (by
      have := (Finset.mem_filter.1 ht.1).2; rwa [lane_num] at this)
    rw [if_neg h, if_neg hn]
    rw [and_zero, select_zero]

end Cert.Proof.K

end
-- ==== Proof.Choice.lean ====
/-
  The reference's choice of a leaf: the greatest number of a positive lane in each tree, minus one if there is none; and its
  result, the row of that leaf, zero if there is none.
-/
module

public import proofs.«01_k».proof.Proof.Inputs
public import proofs.«01_k».proof.Proof.Leaf
public import Idealize.ShloMosaic.Lib.Routing.Ops

@[expose] public section

noncomputable section

namespace Cert.Proof.K

open Cert.KernelIdeal Cert.KernelIdeal.Gen
open Idealize.ShloMosaic Idealize.ShloMosaic.ValueIdx

/-- A running signed maximum is an upper bound, and the start or one of the words. -/
theorem max_run {ι : Type} (z : ι → BitVec 32) (L : List ι) (r : BitVec 32) :
    r.toInt ≤ (L.foldl (fun r i => IntOp.maxsi r (z i)) r).toInt
      ∧ (∀ i ∈ L, (z i).toInt ≤ (L.foldl (fun r i => IntOp.maxsi r (z i)) r).toInt)
      ∧ (L.foldl (fun r i => IntOp.maxsi r (z i)) r = r ∨ ∃ i ∈ L, L.foldl (fun r i => IntOp.maxsi r (z i)) r = z i) := by
  induction L generalizing r with
  | nil => exact ⟨le_refl _, fun i hi => absurd hi List.not_mem_nil, Or.inl rfl⟩
  | cons i L ih =>
    have hm : r.toInt ≤ (IntOp.maxsi r (z i)).toInt ∧ (z i).toInt ≤ (IntOp.maxsi r (z i)).toInt
        ∧ (IntOp.maxsi r (z i) = r ∨ IntOp.maxsi r (z i) = z i) := by
      unfold IntOp.maxsi
      by_cases h : (z i).slt r
      · rw [if_pos h]
        exact ⟨le_refl _, le_of_lt (BitVec.slt_iff_toInt_lt.1 h), Or.inl rfl⟩
      · rw [if_neg h]
        exact ⟨not_lt.1 fun h' => h (BitVec.slt_iff_toInt_lt.2 h'), le_refl _, Or.inr rfl⟩
    obtain ⟨h1, h2, h3⟩ := ih (IntOp.maxsi r (z i))
    refine ⟨hm.1.trans h1, ?_, ?_⟩
    · intro k hk
      rcases List.mem_cons.1 hk with rfl | hk
      · exact hm.2.1.trans h1
      · exact h2 k hk
    · rcases h3 with h3 | ⟨k, hk, h3⟩
      · rcases hm.2.2 with h4 | h4
        · exact Or.inl (h3.trans h4)
        · exact Or.inr ⟨i, List.mem_cons_self, h3.trans h4⟩
      · exact Or.inr ⟨k, List.mem_cons_of_mem _ hk, h3⟩

section
open Cert.ReferenceIdeal.Value

variable (V0 : Valuation Cert.ReferenceIdeal.τ Cert.ReferenceIdeal.sig (Elt Ideal))

def aFeat : FVec Ideal S256x128 .f32 := V0 (Proc.devRef .tc Cert.ReferenceIdeal.main_arg0)

/-- Each lane's number if the lane is positive, else minus one. -/
def marks : IVec Cert.ReferenceIdeal.S256x8x16 32 :=
  select (shapeCast _ (cmpf .ogt (aFeat V0) (broadcastInDim S256x128 ![] Cert.ReferenceIdeal.Gen.bcast_S_S256x128 (constant S_ .f32 0x00000000#32))) Cert.ReferenceIdeal.Gen.shapeCasts_S256x128_S256x8x16)
    (broadcastInDim Cert.ReferenceIdeal.S256x8x16 ![0, 1, 2] Cert.ReferenceIdeal.Gen.bcast_S1x1x16_S256x8x16_0_1_2 (broadcastInDim Cert.ReferenceIdeal.S1x1x16 ![2] Cert.ReferenceIdeal.Gen.bcast_S16_S1x1x16_2 (iotaInDim Cert.ReferenceIdeal.S16 32 0)))
    (broadcastInDim Cert.ReferenceIdeal.S256x8x16 ![] Cert.ReferenceIdeal.Gen.bcast_S_S256x8x16 (id (constantI S_ 32 4294967295#32)))

open Classical in
theorem marks_apply (b : Fin 256) (t : Fin 8) (j : Fin 16) :
    marks V0 (ix3 b t j) = if j ∈ lit (aFeat V0) b t then BitVec.ofNat 32 j.val else 4294967295#32 := by
  have e1 : shapeCast Cert.ReferenceIdeal.S256x8x16 (cmpf .ogt (aFeat V0) (broadcastInDim S256x128 ![] Cert.ReferenceIdeal.Gen.bcast_S_S256x128 (constant S_ .f32 0x00000000#32))) Cert.ReferenceIdeal.Gen.shapeCasts_S256x128_S256x8x16 (ix3 b t j)
      = if j ∈ lit (aFeat V0) b t then 1#1 else 0#1 := by
    rw [shapeCast_apply _ Cert.ReferenceIdeal.Gen.shapeCasts_S256x128_S256x8x16 (ix3 (n0 := 256) (n1 := 8) (n2 := 16) b t j) (ix2 (n0 := 256) (n1 := 128) b (lane t j)) (by
      rw [Shape.rowMajor_val_two, Shape.rowMajor_val_three]
      show b.val * 128 + (16 * t.val + j.val) = (b.val * 8 + t.val) * 16 + j.val
      omega)]
    show Ideal.cmp .ogt (aFeat V0 (ix2 b (lane t j))) (Ideal.ofBits .f32 0x00000000#32) = _
    rw [Ideal.ofBits_zero_f32, pos_bit]
    refine if_congr ?_ rfl rfl
    unfold lit
    rw [Finset.mem_filter]
    exact ⟨fun h => ⟨Finset.mem_univ _, h⟩, fun h => h.2⟩
  have e2 : broadcastInDim Cert.ReferenceIdeal.S256x8x16 ![0, 1, 2] Cert.ReferenceIdeal.Gen.bcast_S1x1x16_S256x8x16_0_1_2 (broadcastInDim Cert.ReferenceIdeal.S1x1x16 ![2] Cert.ReferenceIdeal.Gen.bcast_S16_S1x1x16_2 (iotaInDim Cert.ReferenceIdeal.S16 32 0)) (ix3 b t j)
      = BitVec.ofNat 32 j.val := by
    rw [broadcastInDim_apply _ Cert.ReferenceIdeal.Gen.bcast_S1x1x16_S256x8x16_0_1_2 _ _ (ix3 (n0 := 1) (n1 := 1) (n2 := 16) 0 0 j) (fun a => by match a with | ⟨0, _⟩ => rfl | ⟨1, _⟩ => rfl | ⟨2, _⟩ => rfl),
      broadcastInDim_apply _ Cert.ReferenceIdeal.Gen.bcast_S16_S1x1x16_2 _ _ (ix1 (n := 16) j) (fun a => by match a with | ⟨0, _⟩ => rfl)]
    rfl
  have e : marks V0 (ix3 b t j) = Scalar.select (shapeCast Cert.ReferenceIdeal.S256x8x16 (cmpf .ogt (aFeat V0) (broadcastInDim S256x128 ![] Cert.ReferenceIdeal.Gen.bcast_S_S256x128 (constant S_ .f32 0x00000000#32))) Cert.ReferenceIdeal.Gen.shapeCasts_S256x128_S256x8x16 (ix3 b t j))
      (broadcastInDim Cert.ReferenceIdeal.S256x8x16 ![0, 1, 2] Cert.ReferenceIdeal.Gen.bcast_S1x1x16_S256x8x16_0_1_2 (broadcastInDim Cert.ReferenceIdeal.S1x1x16 ![2] Cert.ReferenceIdeal.Gen.bcast_S16_S1x1x16_2 (iotaInDim Cert.ReferenceIdeal.S16 32 0)) (ix3 b t j))
      4294967295#32 := rfl
  rw [e, e1, e2]
  split
  · exact select_one _ _
  · exact select_zero _ _

/-- The number chosen in tree `t` of row `b`. -/
def chosen : IVec Cert.ReferenceIdeal.S256x8 32 := res_main_v337 V0

theorem drop_mark (i : Cert.ReferenceIdeal.S256x8x16.Idx) (b : Fin 256) (t : Fin 8) :
    Cert.ReferenceIdeal.Gen.reducesTo_S256x8x16_S256x8_d2.drop i = ix2 b t ↔ i = ix3 b t (i 2) := by
  have h0 : (Cert.ReferenceIdeal.Gen.reducesTo_S256x8x16_S256x8_d2.drop i 0).val = (i 0).val := rfl
  have h1 : (Cert.ReferenceIdeal.Gen.reducesTo_S256x8x16_S256x8_d2.drop i 1).val = (i 1).val := rfl
  constructor
  · intro h
    rw [h] at h0 h1
    funext (a : Fin 3)
    match a with
    | ⟨0, _⟩ => exact Fin.ext h0.symm
    | ⟨1, _⟩ => exact Fin.ext h1.symm
    | ⟨2, _⟩ => rfl
  · intro h
    funext (a : Fin 2)
    match a with
    | ⟨0, _⟩ => exact Fin.ext (h0.trans (congrArg (fun i : Cert.ReferenceIdeal.S256x8x16.Idx => (i 0).val) h))
    | ⟨1, _⟩ => exact Fin.ext (h1.trans (congrArg (fun i : Cert.ReferenceIdeal.S256x8x16.Idx => (i 1).val) h))

theorem chosen_run (b : Fin 256) (t : Fin 8) :
    (∀ j : Fin 16, (marks V0 (ix3 b t j)).toInt ≤ (chosen V0 (ix2 b t)).toInt) ∧ ∃ j : Fin 16, chosen V0 (ix2 b t) = marks V0 (ix3 b t j) := by
  have e : chosen V0 (ix2 b t) = Host.reduce IntOp.maxsi (marks V0) (constantI S_ 32 2147483648#32) Cert.ReferenceIdeal.Gen.reducesTo_S256x8x16_S256x8_d2 Cert.ReferenceIdeal.Gen.h_S_ (ix2 b t) := rfl
  rw [Host.reduce_eq_foldl] at e
  obtain ⟨-, h2, h3⟩ := max_run (marks V0) (((List.finRange Cert.ReferenceIdeal.S256x8x16.numel).map Cert.ReferenceIdeal.S256x8x16.rowMajor.symm).filter
    fun i => Cert.ReferenceIdeal.Gen.reducesTo_S256x8x16_S256x8_d2.drop i = ix2 b t) 2147483648#32
  have e' : chosen V0 (ix2 b t) = _ := e
  replace e : chosen V0 (ix2 b t) = (((List.finRange Cert.ReferenceIdeal.S256x8x16.numel).map Cert.ReferenceIdeal.S256x8x16.rowMajor.symm).filter
    fun i => Cert.ReferenceIdeal.Gen.reducesTo_S256x8x16_S256x8_d2.drop i = ix2 b t).foldl (fun r i => IntOp.maxsi r (marks V0 i)) 2147483648#32 := e
  rw [← e] at h2 h3
  have hub : ∀ j : Fin 16, (marks V0 (ix3 b t j)).toInt ≤ (chosen V0 (ix2 b t)).toInt := fun j => h2 _ (by
    rw [List.mem_filter]
    refine ⟨List.mem_map.2 ⟨Cert.ReferenceIdeal.S256x8x16.rowMajor (ix3 b t j), List.mem_finRange _, Equiv.symm_apply_apply _ _⟩, ?_⟩
    exact decide_eq_true ((drop_mark (ix3 b t j) b t).2 rfl))
  refine ⟨hub, ?_⟩
  rcases h3 with h3 | ⟨i, hi, h3⟩
  · exfalso
    have h0 := hub 0
    rw [h3, marks_apply] at h0
    have hneg : (2147483648#32 : BitVec 32).toInt = -2147483648 := by decide
    split at h0
    · have : (BitVec.ofNat 32 (0 : Fin 16).val).toInt = 0 := by decide
      omega
    · have : (4294967295#32 : BitVec 32).toInt = -1 := by decide
      omega
  · have := (drop_mark i b t).1 (of_decide_eq_true (List.mem_filter.1 hi).2)
    exact ⟨i 2, h3.trans (congrArg (marks V0) this)⟩

theorem chosen_top (b : Fin 256) (t : Fin 8) (j : Fin 16) (h : IsTop (lit (aFeat V0) b t) j) : chosen V0 (ix2 b t) = BitVec.ofNat 32 j.val := by
  obtain ⟨hub, i, hi⟩ := chosen_run V0 b t
  have hj := hub j
  rw [marks_apply, if_pos h.1, hi, marks_apply, WordArith.toInt_ofNat_small _ (by omega)] at hj
  rw [hi, marks_apply]
  by_cases hm : i ∈ lit (aFeat V0) b t
  · rw [if_pos hm, WordArith.toInt_ofNat_small _ (by omega)] at hj
    have := h.2 i hm
    have hij : i = j := le_antisymm this (by have : j.val ≤ i.val := by omega
                                             exact this)
    rw [if_pos hm, hij]
  · rw [if_neg hm] at hj
    have : (4294967295#32 : BitVec 32).toInt = -1 := by decide
    omega

theorem chosen_none (b : Fin 256) (t : Fin 8) (h : lit (aFeat V0) b t = ∅) : chosen V0 (ix2 b t) = 4294967295#32 := by
  obtain ⟨-, i, hi⟩ := chosen_run V0 b t
  rw [hi, marks_apply, if_neg (by rw [h]; exact Finset.notMem_empty _)]

/-- The leaf read: the chosen one, the tree's first if there is none. -/
theorem leaf_word (t : Fin 8) (j : Fin 16) : IntOp.addi (IntOp.muli (BitVec.ofNat 32 t.val) 16#32) (IntOp.maxsi 0#32 (BitVec.ofNat 32 j.val)) = BitVec.ofNat 32 (lane t j).val :=
  (show ∀ (t : Fin 8) (j : Fin 16), IntOp.addi (IntOp.muli (BitVec.ofNat 32 t.val) 16#32) (IntOp.maxsi 0#32 (BitVec.ofNat 32 j.val)) = BitVec.ofNat 32 (16 * t.val + j.val) by decide) t j
theorem leaf_word_none (t : Fin 8) : IntOp.addi (IntOp.muli (BitVec.ofNat 32 t.val) 16#32) (IntOp.maxsi 0#32 4294967295#32) = BitVec.ofNat 32 (lane t 0).val :=
  (show ∀ t : Fin 8, IntOp.addi (IntOp.muli (BitVec.ofNat 32 t.val) 16#32) (IntOp.maxsi 0#32 4294967295#32) = BitVec.ofNat 32 (16 * t.val + 0) by decide) t

/-- The place of row `b` and tree `t` in the flat list. -/
def flat (b : Fin 256) (t : Fin 8) : Fin 2048 := ⟨b.val * 8 + t.val, by omega⟩

theorem exists_flat (n : Fin 2048) : ∃ b t, n = flat b t := ⟨⟨n.val / 8, by omega⟩, ⟨n.val % 8, by omega⟩, Fin.ext (by show n.val = n.val / 8 * 8 + n.val % 8; omega)⟩

def leafNo : IVec Cert.ReferenceIdeal.S2048 32 := res_main_v347 V0

theorem leafNo_apply (b : Fin 256) (t : Fin 8) : leafNo V0 (ix1 (flat b t)) = IntOp.addi (IntOp.muli (BitVec.ofNat 32 t.val) 16#32) (IntOp.maxsi 0#32 (chosen V0 (ix2 b t))) := by
  refine (shapeCast_apply _ Cert.ReferenceIdeal.Gen.shapeCasts_S256x8_S2048 (ix1 (n := 2048) (flat b t)) (ix2 (n0 := 256) (n1 := 8) b t) (by
    rw [Shape.rowMajor_val_two, Shape.rowMajor_val_one]; rfl)).trans ?_
  have e1 : broadcastInDim Cert.ReferenceIdeal.S256x8 ![0, 1] Cert.ReferenceIdeal.Gen.bcast_S1x8_S256x8_0_1 (muli (broadcastInDim Cert.ReferenceIdeal.S1x8 ![1] Cert.ReferenceIdeal.Gen.bcast_S8_S1x8_1 (iotaInDim Cert.ReferenceIdeal.S8 32 0)) (broadcastInDim Cert.ReferenceIdeal.S1x8 ![] Cert.ReferenceIdeal.Gen.bcast_S_S1x8 (constantI S_ 32 16#32))) (ix2 b t)
      = IntOp.muli (BitVec.ofNat 32 t.val) 16#32 := by
    rw [broadcastInDim_apply _ Cert.ReferenceIdeal.Gen.bcast_S1x8_S256x8_0_1 _ _ (ix2 (n0 := 1) (n1 := 8) 0 t) (fun a => by match a with | ⟨0, _⟩ => rfl | ⟨1, _⟩ => rfl)]
    refine congrArg (fun w => IntOp.muli w 16#32) ?_
    exact broadcastInDim_apply _ Cert.ReferenceIdeal.Gen.bcast_S8_S1x8_1 _ _ (ix1 (n := 8) t) (fun a => by match a with | ⟨0, _⟩ => rfl)
  exact congrArg (fun w => IntOp.addi w (IntOp.maxsi 0#32 (chosen V0 (ix2 b t)))) e1

theorem leafNo_lane (b : Fin 256) (t : Fin 8) : ∃ j : Fin 16, leafNo V0 (ix1 (flat b t)) = BitVec.ofNat 32 (lane t j).val ∧ ∀ i, IsTop (lit (aFeat V0) b t) i → j = i := by
  classical
  rw [leafNo_apply]
  rcases (lit (aFeat V0) b t).eq_empty_or_nonempty with h | h
  · refine ⟨0, ?_, fun i hi => ?_⟩
    · rw [chosen_none V0 b t h, leaf_word_none]
    · exact absurd hi.1 (by rw [h]; exact Finset.notMem_empty _)
  · obtain ⟨j, hj⟩ := exists_top h
    exact ⟨j, by rw [chosen_top V0 b t j hj, leaf_word], fun i hi => hj.unique hi⟩

def leafIdx : IVec Cert.ReferenceIdeal.S2048x1 32 := res_main_call3_v5 V0

theorem leafIdx_apply (n : Fin 2048) (k : Fin 128) (h : leafNo V0 (ix1 n) = BitVec.ofNat 32 k.val) : leafIdx V0 (ix2 n (0 : Fin 1)) = BitVec.ofNat 32 k.val := by
  refine (broadcastInDim_apply _ Cert.ReferenceIdeal.Gen.bcast_S2048_S2048x1_0 _ _ (ix1 (n := 2048) n) (fun a => by match a with | ⟨0, _⟩ => rfl)).trans ?_
  show Scalar.select (IntOp.cmpi .slt (leafNo V0 (ix1 n)) 0#32) _ (leafNo V0 (ix1 n)) = _
  rw [h, slt_zero (by omega), select_zero]

/-- The rows read, one for each row and tree. -/
def leafRows (h : FVec Ideal S128x128 .f32) : FVec Ideal Cert.ReferenceIdeal.S2048x128 .f32 :=
  select (broadcastInDim Cert.ReferenceIdeal.S2048x128 ![0] Cert.ReferenceIdeal.Gen.bcast_S2048_S2048x128_0
      (Host.reduce IntOp.andi (andi (cmpi .sge (leafIdx V0) (broadcastInDim Cert.ReferenceIdeal.S2048x1 ![] Cert.ReferenceIdeal.Gen.bcast_S_S2048x1 (constantI S_ 32 0#32)))
        (cmpi .sle (leafIdx V0) (broadcastInDim Cert.ReferenceIdeal.S2048x1 ![0, 1] Cert.ReferenceIdeal.Gen.bcast_S1x1_S2048x1_0_1 (broadcastInDim Cert.ReferenceIdeal.S1x1 ![1] Cert.ReferenceIdeal.Gen.bcast_S1_S1x1_1 (constantI Cert.ReferenceIdeal.S1 32 127#32)))))
        (constantI S_ 1 1#1) Cert.ReferenceIdeal.Gen.reducesTo_S2048x1_S2048_d1 Cert.ReferenceIdeal.Gen.h_S_))
    (Host.gather Cert.ReferenceIdeal.gather_S128x128_S2048x1_S2048x128_1_0_n_n_0_1_1128 h (leafIdx V0))
    (broadcastInDim Cert.ReferenceIdeal.S2048x128 ![] Cert.ReferenceIdeal.Gen.bcast_S_S2048x128 (constant S_ .f32 0x7FC00000#32))

theorem leafRows_apply (h : FVec Ideal S128x128 .f32) (b : Fin 256) (t : Fin 8) (d : Fin 128) (j : Fin 16) (hj : IsTop (lit (aFeat V0) b t) j) :
    leafRows V0 h (ix2 (flat b t) d) = h (ix2 (lane t j) d) := by
  have hmask : Host.reduce IntOp.andi (andi (cmpi .sge (leafIdx V0) (broadcastInDim Cert.ReferenceIdeal.S2048x1 ![] Cert.ReferenceIdeal.Gen.bcast_S_S2048x1 (constantI S_ 32 0#32)))
        (cmpi .sle (leafIdx V0) (broadcastInDim Cert.ReferenceIdeal.S2048x1 ![0, 1] Cert.ReferenceIdeal.Gen.bcast_S1x1_S2048x1_0_1 (broadcastInDim Cert.ReferenceIdeal.S1x1 ![1] Cert.ReferenceIdeal.Gen.bcast_S1_S1x1_1 (constantI Cert.ReferenceIdeal.S1 32 127#32)))))
        (constantI S_ 1 1#1) Cert.ReferenceIdeal.Gen.reducesTo_S2048x1_S2048_d1 Cert.ReferenceIdeal.Gen.h_S_ (ix1 (flat b t)) = 1#1 := by
    refine Host.reduce_andi_one _ _ _ _ _ rfl fun i => ?_
    obtain ⟨n, z, rfl⟩ : ∃ (n : Fin 2048) (z : Fin 1), i = ix2 n z := ⟨i 0, i 1, eq_ix2 i⟩
    obtain rfl : z = 0 := Subsingleton.elim _ _
    obtain ⟨b', t', rfl⟩ := exists_flat n
    obtain ⟨j', hj', -⟩ := leafNo_lane V0 b' t'
    show IntOp.andi (IntOp.cmpi .sge (leafIdx V0 (ix2 (flat b' t') 0)) 0#32) (IntOp.cmpi .sle (leafIdx V0 (ix2 (flat b' t') 0)) (BitVec.ofNat 32 127)) = 1#1
    have hlt := (lane t' j').isLt
    rw [leafIdx_apply V0 _ (lane t' j') hj', sge_zero (by omega), sle_of_le (by norm_num) (by omega)]
    decide
  obtain ⟨j', hj', hu⟩ := leafNo_lane V0 b t
  obtain rfl := hu j hj
  refine (congrArg (fun p => Scalar.select p (Host.gather Cert.ReferenceIdeal.gather_S128x128_S2048x1_S2048x128_1_0_n_n_0_1_1128 h (leafIdx V0) (ix2 (flat b t) d)) (Ideal.ofBits .f32 0x7FC00000#32))
    ((broadcastInDim_apply _ Cert.ReferenceIdeal.Gen.bcast_S2048_S2048x128_0 _ _ (ix1 (n := 2048) (flat b t)) (fun a => by match a with | ⟨0, _⟩ => rfl)).trans hmask)).trans ?_
  rw [select_one]
  exact Routing.gather_row (nb := 128) (B := 128) (n := 2048) Cert.ReferenceIdeal.gather_S128x128_S2048x1_S2048x128_1_0_n_n_0_1_1128 rfl rfl rfl rfl rfl h (leafIdx V0) (flat b t) d (lane t j')
    (leafIdx_apply V0 _ (lane t j') hj') (by norm_num)

/-- The reference's result. -/
def refOut : FVec Ideal S256x8x128 .f32 :=
  select (broadcastInDim S256x8x128 ![0, 1, 2] Cert.ReferenceIdeal.Gen.bcast_S256x8x1_S256x8x128_0_1_2 (broadcastInDim Cert.ReferenceIdeal.S256x8x1 ![0, 1] Cert.ReferenceIdeal.Gen.bcast_S256x8_S256x8x1_0_1
      (cmpi .sge (chosen V0) (broadcastInDim Cert.ReferenceIdeal.S256x8 ![] Cert.ReferenceIdeal.Gen.bcast_S_S256x8 (constantI S_ 32 0#32)))))
    (shapeCast _ (leafRows V0 (rlast V0)) Cert.ReferenceIdeal.Gen.shapeCasts_S2048x128_S256x8x128)
    (broadcastInDim S256x8x128 ![] Cert.ReferenceIdeal.Gen.bcast_S_S256x8x128 (constant S_ .f32 0x00000000#32))

theorem refOut_apply (b : Fin 256) (t : Fin 8) (d : Fin 128) :
    refOut V0 (ix3 b t d) = Scalar.select (IntOp.cmpi .sge (chosen V0 (ix2 b t)) 0#32) (leafRows V0 (rlast V0) (ix2 (flat b t) d)) (0 : EReal) := by
  have e1 : (broadcastInDim S256x8x128 ![0, 1, 2] Cert.ReferenceIdeal.Gen.bcast_S256x8x1_S256x8x128_0_1_2 (broadcastInDim Cert.ReferenceIdeal.S256x8x1 ![0, 1] Cert.ReferenceIdeal.Gen.bcast_S256x8_S256x8x1_0_1
      (cmpi .sge (chosen V0) (broadcastInDim Cert.ReferenceIdeal.S256x8 ![] Cert.ReferenceIdeal.Gen.bcast_S_S256x8 (constantI S_ 32 0#32))))) (ix3 b t d) = IntOp.cmpi .sge (chosen V0 (ix2 b t)) 0#32 := by
    rw [broadcastInDim_apply _ Cert.ReferenceIdeal.Gen.bcast_S256x8x1_S256x8x128_0_1_2 _ _ (ix3 (n0 := 256) (n1 := 8) (n2 := 1) b t 0) (fun a => by match a with | ⟨0, _⟩ => rfl | ⟨1, _⟩ => rfl | ⟨2, _⟩ => rfl),
      broadcastInDim_apply _ Cert.ReferenceIdeal.Gen.bcast_S256x8_S256x8x1_0_1 _ _ (ix2 (n0 := 256) (n1 := 8) b t) (fun a => by match a with | ⟨0, _⟩ => rfl | ⟨1, _⟩ => rfl)]
    rfl
  have e2 : shapeCast S256x8x128 (leafRows V0 (rlast V0)) Cert.ReferenceIdeal.Gen.shapeCasts_S2048x128_S256x8x128 (ix3 b t d) = leafRows V0 (rlast V0) (ix2 (flat b t) d) :=
    shapeCast_apply _ _ _ (ix2 (n0 := 2048) (n1 := 128) (flat b t) d) (by rw [Shape.rowMajor_val_two, Shape.rowMajor_val_three]; rfl)
  have e : refOut V0 (ix3 b t d) = Scalar.select ((broadcastInDim S256x8x128 ![0, 1, 2] Cert.ReferenceIdeal.Gen.bcast_S256x8x1_S256x8x128_0_1_2 (broadcastInDim Cert.ReferenceIdeal.S256x8x1 ![0, 1] Cert.ReferenceIdeal.Gen.bcast_S256x8_S256x8x1_0_1
      (cmpi .sge (chosen V0) (broadcastInDim Cert.ReferenceIdeal.S256x8 ![] Cert.ReferenceIdeal.Gen.bcast_S_S256x8 (constantI S_ 32 0#32))))) (ix3 b t d))
      (shapeCast S256x8x128 (leafRows V0 (rlast V0)) Cert.ReferenceIdeal.Gen.shapeCasts_S2048x128_S256x8x128 (ix3 b t d)) (Ideal.ofBits .f32 0x00000000#32) := rfl
  rw [e, e1, e2, Ideal.ofBits_zero_f32]

theorem refOut_top (b : Fin 256) (t : Fin 8) (d : Fin 128) (j : Fin 16) (hj : IsTop (lit (aFeat V0) b t) j) : refOut V0 (ix3 b t d) = rlast V0 (ix2 (lane t j) d) := by
  rw [refOut_apply, chosen_top V0 b t j hj, sge_zero (by omega), select_one, leafRows_apply V0 _ b t d j hj]

theorem refOut_none (b : Fin 256) (t : Fin 8) (d : Fin 128) (h : lit (aFeat V0) b t = ∅) : refOut V0 (ix3 b t d) = (0 : EReal) := by
  rw [refOut_apply, chosen_none V0 b t h, (show IntOp.cmpi .sge 4294967295#32 0#32 = 0#1 by decide), select_zero]

end

end Cert.Proof.K

end
-- ==== Proof.Result.lean ====
/-
  The two results agree: the kernel's masked products read, at every leaf's row, the row the reference reads. Then the claim
  on the values.
-/
module

public import proofs.«01_k».proof.Proof.Choice
public import proofs.«01_k».proof.Proof.Frames

@[expose] public section

noncomputable section

namespace Cert.Proof.K

open Cert.KernelIdeal Cert.KernelIdeal.Gen
open Idealize.ShloMosaic Idealize.ShloMosaic.ValueIdx

/-- The mask kept on the lanes of one tree. -/
def onTree (oh : FVec Ideal S256x128 .f32) (t : BitVec 32) : FVec Ideal S256x128 .f32 :=
  select (cmpi .eq (shrsi (iota .tc S256x128 32 [1] iota_S256x128_d1_w32) (broadcast S256x128 4#32)) (broadcast S256x128 t))
    (shapeCast S256x128 oh shapeCasts_S256x128_S256x128) (broadcast S256x128 (Scalar.ofBits .f32 0x00000000#32 : Ideal .f32))

theorem tree_word (k : Fin 128) (t : Fin 8) : IntOp.cmpi .eq (IntOp.shrsi .vector (BitVec.ofNat 32 k.val) 4#32) (BitVec.ofNat 32 t.val) = if treeOf k = t then 1#1 else 0#1 :=
  (show ∀ (k : Fin 128) (t : Fin 8), IntOp.cmpi .eq (IntOp.shrsi .vector (BitVec.ofNat 32 k.val) 4#32) (BitVec.ofNat 32 t.val)
    = if (⟨k.val / 16, by omega⟩ : Fin 8) = t then 1#1 else 0#1 by decide) k t

theorem onTree_apply (oh : FVec Ideal S256x128 .f32) (t : Fin 8) (b : Fin 256) (k : Fin 128) :
    (onTree oh (BitVec.ofNat 32 t.val) (ix2 b k) : EReal) = if treeOf k = t then oh (ix2 b k) else (0 : EReal) := by
  have e : onTree oh (BitVec.ofNat 32 t.val) (ix2 b k) = Scalar.select (IntOp.cmpi .eq (IntOp.shrsi .vector (iota .tc S256x128 32 [1] iota_S256x128_d1_w32 (ix2 b k)) 4#32) (BitVec.ofNat 32 t.val))
      (shapeCast S256x128 oh shapeCasts_S256x128_S256x128 (ix2 b k)) (Ideal.ofBits .f32 0x00000000#32) := rfl
  rw [e, iota_single_apply, shapeCast_self, Ideal.ofBits_zero_f32]
  show Scalar.select (IntOp.cmpi .eq (IntOp.shrsi .vector (BitVec.ofNat 32 k.val) 4#32) (BitVec.ofNat 32 t.val)) _ _ = _
  rw [tree_word]
  split
  · exact select_one _ _
  · exact select_zero _ _

theorem pick_sum (oh : FVec Ideal S256x128 .f32) (h : FVec Ideal S128x128 .f32) (t : Fin 8) (b : Fin 256) (d : Fin 128) :
    (pick (F := Ideal) oh h (BitVec.ofNat 32 t.val) (ix3 (n0 := 256) (n1 := 1) (n2 := 128) b 0 d) : EReal)
      = ∑ k : Fin 128, (if treeOf k = t then oh (ix2 b k) else (0 : EReal)) * h (ix2 k d) := by
  refine (shapeCast_apply _ shapeCasts_S256x128_S256x1x128 (ix3 (n0 := 256) (n1 := 1) (n2 := 128) b 0 d) (ix2 (n0 := 256) (n1 := 128) b d) (by
    rw [Shape.rowMajor_val_two, Shape.rowMajor_val_three]
    show b.val * 128 + d.val = (b.val * 1 + 0) * 128 + d.val
    omega)).trans ?_
  refine (Ideal.matmul_plain_apply (M := 256) (K := 128) (N := 128) none (onTree oh (BitVec.ofNat 32 t.val)) h (constant S256x128 .f32 0x00000000#32) b d).trans ?_
  show Ideal.ofBits .f32 0x00000000#32 + _ = _
  rw [Ideal.ofBits_zero_f32, zero_add]
  exact Finset.sum_congr rfl fun k _ => by rw [onTree_apply]

theorem tree_lane (t : Fin 8) (j : Fin 16) : treeOf (lane t j) = t := Fin.ext (by show (16 * t.val + j.val) / 16 = t.val; omega)
theorem num_lane (t : Fin 8) (j : Fin 16) : numOf (lane t j) = j := Fin.ext (by show (16 * t.val + j.val) % 16 = j.val; omega)

theorem pick_top (a : FVec Ideal S256x128 .f32) (h : FVec Ideal S128x128 .f32) (t : Fin 8) (b : Fin 256) (d : Fin 128) (j : Fin 16) (hj : IsTop (lit a b t) j) :
    (pick (F := Ideal) (k1_pay1 (F := Ideal) a) h (BitVec.ofNat 32 t.val) (ix3 (n0 := 256) (n1 := 1) (n2 := 128) b 0 d) : EReal) = h (ix2 (lane t j) d) := by
  rw [pick_sum, Finset.sum_eq_single (lane t j)]
  · rw [if_pos (tree_lane t j), onehot, tree_lane, num_lane, if_pos hj, one_mul]
  · intro k _ hk
    by_cases ht : treeOf k = t
    · rw [if_pos ht, onehot, ht, if_neg (fun hi => hk (by rw [← lane_num k, ht, hi.unique hj])), zero_mul]
    · rw [if_neg ht, zero_mul]
  · intro hn; exact absurd (Finset.mem_univ _) hn

theorem pick_none (a : FVec Ideal S256x128 .f32) (h : FVec Ideal S128x128 .f32) (t : Fin 8) (b : Fin 256) (d : Fin 128) (hn : lit a b t = ∅) :
    (pick (F := Ideal) (k1_pay1 (F := Ideal) a) h (BitVec.ofNat 32 t.val) (ix3 (n0 := 256) (n1 := 1) (n2 := 128) b 0 d) : EReal) = 0 := by
  rw [pick_sum]
  refine Finset.sum_eq_zero fun k _ => ?_
  by_cases ht : treeOf k = t
  · rw [if_pos ht, onehot, ht, hn, if_neg (fun hi => Finset.notMem_empty _ hi.1), zero_mul]
  · rw [if_neg ht, zero_mul]

/-- The reference's result is the kernel's, where the paths are the fixed ones. -/
theorem refOut_eq (V0 : Valuation Cert.ReferenceIdeal.τ Cert.ReferenceIdeal.sig (Elt Ideal))
    (h : ∀ l s, aPaths V0 (ix2 l s) = BitVec.ofNat 32 (rowOf l s).val) :
    refOut V0 = tcOut (F := Ideal) (shapeCast S128x8x128 (gathered (F := Ideal) (aTab V0)) shapeCasts_S1024x128_S128x8x128) (k1_pay1 (F := Ideal) (aFeat V0)) (aWi V0) (aWh V0)
      (shapeCast S1x512 (aBi V0) shapeCasts_S512_S1x512) (shapeCast S1x512 (aBh V0) shapeCasts_S512_S1x512) := by
  funext i
  obtain ⟨b, t, d, rfl⟩ : ∃ (b : Fin 256) (t : Fin 8) (d : Fin 128), i = ix3 b t d := ⟨i 0, i 1, i 2, eq_ix3 i⟩
  rw [← xin_eq V0 h]
  show _ = pick (F := Ideal) (k1_pay1 (F := Ideal) (aFeat V0)) (lstmH (xin V0) (aWi V0) (aWh V0) (shapeCast S1x512 (aBi V0) shapeCasts_S512_S1x512) (shapeCast S1x512 (aBh V0) shapeCasts_S512_S1x512))
    (BitVec.ofNat 32 t.val) (ix3 (n0 := 256) (n1 := 1) (n2 := 128) b 0 d)
  rw [← rlast_eq]
  rcases (lit (aFeat V0) b t).eq_empty_or_nonempty with hn | hn
  · rw [refOut_none V0 b t d hn]; exact (pick_none _ _ t b d hn).symm
  · obtain ⟨j, hj⟩ := exists_top hn
    rw [refOut_top V0 b t d j hj]; exact (pick_top _ _ t b d j hj).symm

end Cert.Proof.K

namespace Cert.Proof

open Idealize.ShloMosaic Idealize.SL.Sem Idealize.ShloMosaic.StableHlo

theorem value : Cert.algebraic_KernelIdeal_ReferenceIdeal_pre_fixed_paths (hKernelIdeal := Cert.KernelIdeal.Gen.facts)
    (hReferenceIdeal := Cert.ReferenceIdeal.Gen.facts) (hPre_fixed_paths := K.factsPre) := fun m g m' g' hp hm => by
  refine ⟨fun c => K.outVal (F := Ideal) m c, ?_, ?_⟩
  · exact (θ_run (Cert.KernelIdeal.defs (F := Ideal)) _ _).mono (fun _ h c => h.1 c) (K.run_main (F := Ideal) m g)
  · refine (θ_run (Cert.ReferenceIdeal.defs (F := Ideal)) _ _).mono (fun r h c => ⟨(h c).1.trans ?_, (h c).2⟩) (Cert.ReferenceIdeal.Value.run (F := Ideal) m' g')
    obtain ⟨h0, h1, h2, h3, h4, h5, h6⟩ := hm c
    have e0 : K.aFeat (launchContents m' c) = m ((c.tc : Thread Cert.KernelIdeal.nD Cert.KernelIdeal.τ).loc Cert.KernelIdeal.main_arg0) := h0
    have e1 : K.aTab (launchContents m' c) = m ((c.tc : Thread Cert.KernelIdeal.nD Cert.KernelIdeal.τ).loc Cert.KernelIdeal.main_arg1) := h1
    have e2 : K.aWi (launchContents m' c) = m ((c.tc : Thread Cert.KernelIdeal.nD Cert.KernelIdeal.τ).loc Cert.KernelIdeal.main_arg2) := h2
    have e3 : K.aWh (launchContents m' c) = m ((c.tc : Thread Cert.KernelIdeal.nD Cert.KernelIdeal.τ).loc Cert.KernelIdeal.main_arg3) := h3
    have e4 : K.aBi (launchContents m' c) = m ((c.tc : Thread Cert.KernelIdeal.nD Cert.KernelIdeal.τ).loc Cert.KernelIdeal.main_arg4) := h4
    have e5 : K.aBh (launchContents m' c) = m ((c.tc : Thread Cert.KernelIdeal.nD Cert.KernelIdeal.τ).loc Cert.KernelIdeal.main_arg5) := h5
    have e6 : K.aPaths (launchContents m' c) = m ((c.tc : Thread Cert.KernelIdeal.nD Cert.KernelIdeal.τ).loc Cert.KernelIdeal.main_arg6) := h6
    have hpath : ∀ l s, K.aPaths (launchContents m' c) (ValueIdx.ix2 l s) = BitVec.ofNat 32 (K.rowOf l s).val := by
      rw [e6]
      exact K.paths_word _ _ _ _ _ _ _ (hp c)
    refine (K.refOut_eq (launchContents m' c) hpath).trans ?_
    rw [e0, e1, e2, e3, e4, e5]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, K.factsPre, frame_kernel, frame_ideal,
    fun m g _ => frame_ideal m g trivial, frame_reference, fun m g _ => frame_reference m g trivial, trivial, value⟩

end Cert.Proof

end
